-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_v15) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_router : Cert.Pre_finite_router.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ preserves_Kernel_KernelIdeal
    ∧ algebraic_KernelIdeal_ReferenceIdeal_pre_finite_router (hKernelIdeal := hKernelIdeal) (hReferenceIdeal := hReferenceIdeal) (hPre_finite_router := hPre_finite_router)
-- ==== Pre_finite_router.lean ====
abbrev S4x2048x1024 : Shape := ⟨3, ![4, 2048, 1024]⟩
abbrev S1024x1024 : Shape := ⟨2, ![1024, 1024]⟩
abbrev S1024 : Shape := ⟨1, ![1024]⟩
abbrev S16x1024 : Shape := ⟨2, ![16, 1024]⟩
abbrev S16 : Shape := ⟨1, ![16]⟩
abbrev S1x1024 : Shape := ⟨2, ![1, 1024]⟩
abbrev S1 : Shape := ⟨1, ![1]⟩
abbrev S4x2048x16 : Shape := ⟨3, ![4, 2048, 16]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S16x1024 : S_.BroadcastsInDim S16x1024 (![] : Fin 0 → Fin S16x1024.rank)
  reducesTo_S16x1024_S_d0_1 : S16x1024.ReducesTo [0, 1] S_
  bcast_S_S16 : S_.BroadcastsInDim S16 (![] : Fin 0 → Fin S16.rank)
  reducesTo_S16_S_d0 : S16.ReducesTo [0] S_
  bcast_S_S4x2048x16 : S_.BroadcastsInDim S4x2048x16 (![] : Fin 0 → Fin S4x2048x16.rank)
  reducesTo_S4x2048x16_S_d0_1_2 : S4x2048x16.ReducesTo [0, 1, 2] S_

variable [Facts]

def fn_part1 {F : FTy → Type} [FloatOps F] (main_arg4 : FVec F S16 .f32) (main_arg9 : FVec F S4x2048x16 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_cst_8 : FVec F S_ .f32 := constant S_ .f32 0x00000000#32
  let main_v24 : FVec F S4x2048x16 .f32 := broadcastInDim S4x2048x16 ![] bcast_S_S4x2048x16 main_cst_8
  let main_v25 : IVec S4x2048x16 1 := cmpf .ogt main_arg9 main_v24
  let main_c_9 : IVec S_ 1 := constantI S_ 1 1#1
  let main_v26 : IVec S_ 1 := (fun x v => Host.reduce IntOp.andi x v reducesTo_S4x2048x16_S_d0_1_2 h_S_) main_v25 main_c_9
  let main_v27 : IVec S_ 1 := andi main_v23 main_v26
  let main_cst_10 : FVec F S_ .f32 := constant S_ .f32 0x3F800000#32
  let main_v28 : FVec F S4x2048x16 .f32 := broadcastInDim S4x2048x16 ![] bcast_S_S4x2048x16 main_cst_10
  let main_v29 : IVec S4x2048x16 1 := cmpf .olt main_arg9 main_v28
  let main_c_11 : IVec S_ 1 := constantI S_ 1 1#1
  let main_v30 : IVec S_ 1 := (fun x v => Host.reduce IntOp.andi x v reducesTo_S4x2048x16_S_d0_1_2 h_S_) main_v29 main_c_11
  let main_v31 : IVec S_ 1 := andi main_v27 main_v30
  main_v31

def fn {F : FTy → Type} [FloatOps F] (main_arg0 : FVec F S4x2048x1024 .f32) (main_arg1 : FVec F S1024x1024 .f32) (main_arg2 : FVec F S1024 .f32) (main_arg3 : FVec F S16x1024 .f32) (main_arg4 : FVec F S16 .f32) (main_arg5 : FVec F S1024x1024 .f32) (main_arg6 : FVec F S1024 .f32) (main_arg7 : FVec F S1x1024 .f32) (main_arg8 : FVec F S1 .f32) (main_arg9 : FVec F S4x2048x16 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_arg9 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S16x1024 : Shape := ⟨2, ![16, 1024]⟩
abbrev S16 : Shape := ⟨1, ![16]⟩
abbrev S1x1024 : Shape := ⟨2, ![1, 1024]⟩
abbrev S1 : Shape := ⟨1, ![1]⟩
abbrev S4x2048x16 : Shape := ⟨3, ![4, 2048, 16]⟩
abbrev S_ : Shape := ⟨0, ![]⟩
abbrev S128x1024 : Shape := ⟨2, ![128, 1024]⟩
abbrev S1x16 : Shape := ⟨2, ![1, 16]⟩
abbrev S1x1 : Shape := ⟨2, ![1, 1]⟩
abbrev S2x2048x2 : Shape := ⟨3, ![2, 2048, 2]⟩
abbrev S2x2048x1 : Shape := ⟨3, ![2, 2048, 1]⟩
abbrev S2x2048x16 : Shape := ⟨3, ![2, 2048, 16]⟩
abbrev S1x1024x1024 : Shape := ⟨3, ![1, 1024, 1024]⟩
abbrev S1x1024x16 : Shape := ⟨3, ![1, 1024, 16]⟩
abbrev S1x1024x2 : Shape := ⟨3, ![1, 1024, 2]⟩
abbrev S1x1024x1 : Shape := ⟨3, ![1, 1024, 1]⟩
abbrev S1024x16 : Shape := ⟨2, ![1024, 16]⟩
abbrev S1024x128 : Shape := ⟨2, ![1024, 128]⟩
abbrev S1024x1 : Shape := ⟨2, ![1024, 1]⟩
abbrev S1024x2 : Shape := ⟨2, ![1024, 2]⟩
abbrev S4x2048x2 : Shape := ⟨3, ![4, 2048, 2]⟩
abbrev S4x2048x1 : Shape := ⟨3, ![4, 2048, 1]⟩
abbrev S4x2048 : Shape := ⟨2, ![4, 2048]⟩

abbrev nBuf : Space → Nat
  | .hbm => 33
  | .vmem => 35
  | .smem => 1
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S16, .f32⟩
  | .hbm, ⟨5, _⟩ => ⟨S1024x1024, .f32⟩
  | .hbm, ⟨6, _⟩ => ⟨S1024, .f32⟩
  | .hbm, ⟨7, _⟩ => ⟨S1x1024, .f32⟩
  | .hbm, ⟨8, _⟩ => ⟨S1, .f32⟩
  | .hbm, ⟨9, _⟩ => ⟨S4x2048x16, .f32⟩
  | .hbm, ⟨10, _⟩ => ⟨S_, .i32⟩
  | .hbm, ⟨11, _⟩ => ⟨S_, .f32⟩
  | .hbm, ⟨12, _⟩ => ⟨S128x1024, .f32⟩
  | .hbm, ⟨13, _⟩ => ⟨S1x1024, .f32⟩
  | .hbm, ⟨14, _⟩ => ⟨S1x16, .f32⟩
  | .hbm, ⟨15, _⟩ => ⟨S1x1024, .f32⟩
  | .hbm, ⟨16, _⟩ => ⟨S1x1, .f32⟩
  | .hbm, ⟨17, _⟩ => ⟨S2x2048x2, .f32⟩
  | .hbm, ⟨18, _⟩ => ⟨S2x2048x2, .i32⟩
  | .hbm, ⟨19, _⟩ => ⟨S2x2048x1, .f32⟩
  | .hbm, ⟨20, _⟩ => ⟨S2x2048x2, .f32⟩
  | .hbm, ⟨21, _⟩ => ⟨S2x2048x16, .f32⟩
  | .hbm, ⟨22, _⟩ => ⟨S2x2048x2, .f32⟩
  | .hbm, ⟨23, _⟩ => ⟨S2x2048x2, .i32⟩
  | .hbm, ⟨24, _⟩ => ⟨S2x2048x1, .f32⟩
  | .hbm, ⟨25, _⟩ => ⟨S2x2048x2, .f32⟩
  | .hbm, ⟨26, _⟩ => ⟨S2x2048x16, .f32⟩
  | .hbm, ⟨27, _⟩ => ⟨S4x2048x2, .f32⟩
  | .hbm, ⟨28, _⟩ => ⟨S4x2048x2, .i32⟩
  | .hbm, ⟨29, _⟩ => ⟨S4x2048x1, .f32⟩
  | .hbm, ⟨30, _⟩ => ⟨S4x2048, .f32⟩
  | .hbm, ⟨31, _⟩ => ⟨S4x2048x2, .f32⟩
  | .hbm, ⟨32, _⟩ => ⟨S4x2048x16, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .f32⟩
  | .local _ .vmem, ⟨5, _⟩ => ⟨S1x1024, .f32⟩
  | .local _ .vmem, ⟨6, _⟩ => ⟨S16x1024, .f32⟩
  | .local _ .vmem, ⟨7, _⟩ => ⟨S1x16, .f32⟩
  | .local _ .vmem, ⟨8, _⟩ => ⟨S1024x1024, .f32⟩
  | .local _ .vmem, ⟨9, _⟩ => ⟨S1x1024, .f32⟩
  | .local _ .vmem, ⟨10, _⟩ => ⟨S128x1024, .f32⟩
  | .local _ .vmem, ⟨11, _⟩ => ⟨S1x1024x16, .f32⟩
  | .local _ .vmem, ⟨12, _⟩ => ⟨S1x1024x16, .f32⟩
  | .local _ .vmem, ⟨13, _⟩ => ⟨S1x1024x16, .f32⟩
  | .local _ .vmem, ⟨14, _⟩ => ⟨S1x1024x16, .f32⟩
  | .local _ .vmem, ⟨15, _⟩ => ⟨S1x1024x2, .f32⟩
  | .local _ .vmem, ⟨16, _⟩ => ⟨S1x1024x2, .f32⟩
  | .local _ .vmem, ⟨17, _⟩ => ⟨S1x1024x2, .i32⟩
  | .local _ .vmem, ⟨18, _⟩ => ⟨S1x1024x2, .i32⟩
  | .local _ .vmem, ⟨19, _⟩ => ⟨S1x1024x1, .f32⟩
  | .local _ .vmem, ⟨20, _⟩ => ⟨S1x1024x1, .f32⟩
  | .local _ .vmem, ⟨21, _⟩ => ⟨S1x1024x2, .f32⟩
  | .local _ .vmem, ⟨22, _⟩ => ⟨S1x1024x2, .f32⟩
  | .local _ .vmem, ⟨23, _⟩ => ⟨S1x1024x16, .f32⟩
  | .local _ .vmem, ⟨24, _⟩ => ⟨S1x1024x16, .f32⟩
  | .local _ .vmem, ⟨25, _⟩ => ⟨S1x1024x2, .f32⟩
  | .local _ .vmem, ⟨26, _⟩ => ⟨S1x1024x2, .f32⟩
  | .local _ .vmem, ⟨27, _⟩ => ⟨S1x1024x2, .i32⟩
  | .local _ .vmem, ⟨28, _⟩ => ⟨S1x1024x2, .i32⟩
  | .local _ .vmem, ⟨29, _⟩ => ⟨S1x1024x1, .f32⟩
  | .local _ .vmem, ⟨30, _⟩ => ⟨S1x1024x1, .f32⟩
  | .local _ .vmem, ⟨31, _⟩ => ⟨S1x1024x2, .f32⟩
  | .local _ .vmem, ⟨32, _⟩ => ⟨S1x1024x2, .f32⟩
  | .local _ .vmem, ⟨33, _⟩ => ⟨S1x1024x16, .f32⟩
  | .local _ .vmem, ⟨34, _⟩ => ⟨S1x1024x16, .f32⟩
  | .local _ .smem, ⟨0, _⟩ => ⟨S1x1, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev main_v5_5 : Ref sig .tc := ⟨.hbm, 22, rfl⟩
abbrev main_v5_6 : Ref sig .tc := ⟨.hbm, 23, rfl⟩
abbrev main_v5_7 : Ref sig .tc := ⟨.hbm, 24, rfl⟩
abbrev main_v5_8 : Ref sig .tc := ⟨.hbm, 25, rfl⟩
abbrev main_v5_9 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, v27.toNat, c0_i32_11.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_11 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, v27.toNat, c0_i32_11.toNat]

def cc0_transform_12 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_13 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_14 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_15 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_16 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_17 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_18 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_19 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_20 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_21 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1024x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1024x2 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1024x2 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1024x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1024x2 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1024x16 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1024x2 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1024x2 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1024x1 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1024x2 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1024x16 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S16x1024 : Shape := ⟨2, ![16, 1024]⟩
abbrev S16 : Shape := ⟨1, ![16]⟩
abbrev S1x1024 : Shape := ⟨2, ![1, 1024]⟩
abbrev S1 : Shape := ⟨1, ![1]⟩
abbrev S4x2048x16 : Shape := ⟨3, ![4, 2048, 16]⟩
abbrev S1x1x1024 : Shape := ⟨3, ![1, 1, 1024]⟩
abbrev S_ : Shape := ⟨0, ![]⟩
abbrev S1x1x16 : Shape := ⟨3, ![1, 1, 16]⟩
abbrev S4x2048x1 : Shape := ⟨3, ![4, 2048, 1]⟩
abbrev S1x1x1 : Shape := ⟨3, ![1, 1, 1]⟩
abbrev S4x2048 : Shape := ⟨2, ![4, 2048]⟩
abbrev S4x2048x2 : Shape := ⟨3, ![4, 2048, 2]⟩

abbrev nBuf : Space → Nat
  | .hbm => 74
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S16, .f32⟩
  | .hbm, ⟨5, _⟩ => ⟨S1024x1024, .f32⟩
  | .hbm, ⟨6, _⟩ => ⟨S1024, .f32⟩
  | .hbm, ⟨7, _⟩ => ⟨S1x1024, .f32⟩
  | .hbm, ⟨8, _⟩ => ⟨S1, .f32⟩
  | .hbm, ⟨9, _⟩ => ⟨S4x2048x16, .f32⟩
  | .hbm, ⟨10, _⟩ => ⟨S4x2048x1024, .f32⟩
  | .hbm, ⟨11, _⟩ => ⟨S1x1x1024, .f32⟩
  | .hbm, ⟨12, _⟩ => ⟨S4x2048x1024, .f32⟩
  | .hbm, ⟨13, _⟩ => ⟨S4x2048x1024, .f32⟩
  | .hbm, ⟨14, _⟩ => ⟨S_, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S_, .f32⟩
  | .hbm, ⟨19, _⟩ => ⟨S_, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x16, .f32⟩
  | .hbm, ⟨25, _⟩ => ⟨S1x1x16, .f32⟩
  | .hbm, ⟨26, _⟩ => ⟨S4x2048x16, .f32⟩
  | .hbm, ⟨27, _⟩ => ⟨S4x2048x16, .f32⟩
  | .hbm, ⟨28, _⟩ => ⟨S4x2048x1024, .f32⟩
  | .hbm, ⟨29, _⟩ => ⟨S1x1x1024, .f32⟩
  | .hbm, ⟨30, _⟩ => ⟨S4x2048x1024, .f32⟩
  | .hbm, ⟨31, _⟩ => ⟨S4x2048x1024, .f32⟩
  | .hbm, ⟨32, _⟩ => ⟨S_, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S_, .f32⟩
  | .hbm, ⟨37, _⟩ => ⟨S_, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1, .f32⟩
  | .hbm, ⟨43, _⟩ => ⟨S1x1x1, .f32⟩
  | .hbm, ⟨44, _⟩ => ⟨S4x2048x1, .f32⟩
  | .hbm, ⟨45, _⟩ => ⟨S4x2048x1, .f32⟩
  | .hbm, ⟨46, _⟩ => ⟨S4x2048, .f32⟩
  | .hbm, ⟨47, _⟩ => ⟨S4x2048x16, .f32⟩
  | .hbm, ⟨48, _⟩ => ⟨S4x2048x16, .f32⟩
  | .hbm, ⟨49, _⟩ => ⟨S4x2048x16, .f32⟩
  | .hbm, ⟨50, _⟩ => ⟨S4x2048x16, .f32⟩
  | .hbm, ⟨51, _⟩ => ⟨S4x2048x16, .f32⟩
  | .hbm, ⟨52, _⟩ => ⟨S_, .f32⟩
  | .hbm, ⟨53, _⟩ => ⟨S4x2048x16, .f32⟩
  | .hbm, ⟨54, _⟩ => ⟨S4x2048x16, .f32⟩
  | .hbm, ⟨55, _⟩ => ⟨S_, .f32⟩
  | .hbm, ⟨56, _⟩ => ⟨S4x2048, .f32⟩
  | .hbm, ⟨57, _⟩ => ⟨S_, .f32⟩
  | .hbm, ⟨58, _⟩ => ⟨S4x2048, .f32⟩
  | .hbm, ⟨59, _⟩ => ⟨S4x2048, .f32⟩
  | .hbm, ⟨60, _⟩ => ⟨S4x2048x1, .f32⟩
  | .hbm, ⟨61, _⟩ => ⟨S4x2048x16, .f32⟩
  | .hbm, ⟨62, _⟩ => ⟨S4x2048x16, .f32⟩
  | .hbm, ⟨63, _⟩ => ⟨S4x2048x16, .f32⟩
  | .hbm, ⟨64, _⟩ => ⟨S_, .f32⟩
  | .hbm, ⟨65, _⟩ => ⟨S4x2048, .f32⟩
  | .hbm, ⟨66, _⟩ => ⟨S4x2048x1, .f32⟩
  | .hbm, ⟨67, _⟩ => ⟨S4x2048x16, .f32⟩
  | .hbm, ⟨68, _⟩ => ⟨S4x2048x16, .f32⟩
  | .hbm, ⟨69, _⟩ => ⟨S4x2048x2, .f32⟩
  | .hbm, ⟨70, _⟩ => ⟨S4x2048x2, .i32⟩
  | .hbm, ⟨71, _⟩ => ⟨S4x2048x1, .f32⟩
  | .hbm, ⟨72, _⟩ => ⟨S4x2048x2, .f32⟩
  | .hbm, ⟨73, _⟩ => ⟨S4x2048x2, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_values : Ref sig .tc := ⟨.hbm, 69, rfl⟩
abbrev main_indices : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Proof.TopTwo.lean ====
module

public import Idealize.ShloMosaic.Lib.SortFacts
public import Idealize.ShloMosaic.PureOps.Ideal.Laws

@[expose] public section

noncomputable section

namespace Cert.Router

open Idealize.ShloMosaic

/-- `p` has the value at `i` ahead of the value at `j` when it is larger, or equal and at the smaller position: the
order in which a stable descending sort lists the positions of `p`. -/
def Ahead {n : ℕ} (p : Fin n → EReal) (i j : Fin n) : Prop := p j < p i ∨ (p j = p i ∧ i < j)

/-- Being ahead is transitive. -/
theorem Ahead.trans {n : ℕ} {p : Fin n → EReal} {i j k : Fin n} (h : Ahead p i j) (h' : Ahead p j k) : Ahead p i k := by
  rcases h with h | ⟨h, hl⟩ <;> rcases h' with h' | ⟨h', hl'⟩
  · exact .inl (h'.trans h)
  · exact .inl (h' ▸ h)
  · exact .inl (h ▸ h')
  · exact .inr ⟨h'.trans h, hl.trans hl'⟩

/-- Inserting a position smaller than every position already listed keeps a list in the stable order: the insertion
passes exactly the strictly larger values. -/
theorem pairwise_insert {n : ℕ} (p : Fin n → EReal) (B : Fin n → Fin n → Bool) (hB : ∀ i j, B i j = true ↔ p j < p i)
    (a : Fin n) (l : List (Fin n)) (hl : l.Pairwise (Ahead p)) (ha : ∀ b ∈ l, a < b) :
    (insertBefore B a l).Pairwise (Ahead p) := by
  induction l with
  | nil => exact List.pairwise_singleton _ _
  | cons b l ih =>
    have hp := List.pairwise_cons.1 hl
    unfold insertBefore
    split
    · next h =>
      refine List.pairwise_cons.2 ⟨fun c hc => ?_, ih hp.2 fun c hc => ha c (List.mem_cons_of_mem _ hc)⟩
      rcases List.mem_cons.1 ((perm_insertBefore B a l).mem_iff.1 hc) with rfl | hc
      · exact .inl ((hB _ _).1 h)
      · exact hp.1 c hc
    · next h =>
      have hba : Ahead p a b := by
        rcases lt_or_eq_of_le (not_lt.1 fun hlt => h ((hB _ _).2 hlt)) with hlt | heq
        · exact .inl hlt
        · exact .inr ⟨heq, ha b (List.mem_cons_self ..)⟩
      refine List.pairwise_cons.2 ⟨fun c hc => ?_, hl⟩
      rcases List.mem_cons.1 hc with rfl | hc
      · exact hba
      · exact hba.trans (hp.1 c hc)

/-- A stable descending sort of increasing positions lists them in the stable order. -/
theorem pairwise_sort {n : ℕ} (p : Fin n → EReal) (B : Fin n → Fin n → Bool) (hB : ∀ i j, B i j = true ↔ p j < p i)
    (l : List (Fin n)) (hl : l.Pairwise (· < ·)) : (stableSort B l).Pairwise (Ahead p) := by
  induction l with
  | nil => exact List.Pairwise.nil
  | cons a l ih =>
    have hp := List.pairwise_cons.1 hl
    exact pairwise_insert p B hB a _ (ih hp.2) fun b hb => hp.1 b ((perm_stableSort B l).mem_iff.1 hb)

/-- In the stable descending sort of `p`, an earlier place holds a position ahead of a later place's. -/
theorem ahead_sortedFrom {n : ℕ} (p : Fin n → EReal) (B : Fin n → Fin n → Bool) (hB : ∀ i j, B i j = true ↔ p j < p i)
    (a b : Fin n) (hab : a < b) : Ahead p (sortedFrom B a) (sortedFrom B b) :=
  List.pairwise_iff_get.1 (pairwise_sort p B hB _ (List.pairwise_lt_finRange n)) (a.cast _) (b.cast _) hab

/-- The first place of the stable descending sort holds the position ahead of every other. -/
theorem ahead_first {n : ℕ} (p : Fin (n + 2) → EReal) (B : Fin (n + 2) → Fin (n + 2) → Bool)
    (hB : ∀ i j, B i j = true ↔ p j < p i) (j : Fin (n + 2)) (hj : j ≠ sortedFrom B 0) :
    Ahead p (sortedFrom B 0) j := by
  obtain ⟨k, rfl⟩ := sortedFrom_surjective B j
  exact ahead_sortedFrom p B hB 0 k (Fin.pos_of_ne_zero fun h => hj (h ▸ rfl))

/-- The second place holds the position ahead of every other but the first. -/
theorem ahead_second {n : ℕ} (p : Fin (n + 2) → EReal) (B : Fin (n + 2) → Fin (n + 2) → Bool)
    (hB : ∀ i j, B i j = true ↔ p j < p i) (j : Fin (n + 2)) (hj : j ≠ sortedFrom B 0) (hj' : j ≠ sortedFrom B 1) :
    Ahead p (sortedFrom B 1) j := by
  obtain ⟨k, rfl⟩ := sortedFrom_surjective B j
  refine ahead_sortedFrom p B hB 1 k ?_
  have e0 : k.val ≠ 0 := fun h => hj (congrArg (sortedFrom B) (Fin.ext h))
  have e1 : k.val ≠ 1 := fun h => hj' (congrArg (sortedFrom B) (Fin.ext (by simpa using h)))
  rw [Fin.lt_def, Fin.val_one]
  omega

/-- The first two places hold different positions. -/
theorem second_ne_first {n : ℕ} (B : Fin (n + 2) → Fin (n + 2) → Bool) : sortedFrom B 1 ≠ sortedFrom B 0 := fun h => by
  have h' := congrArg Fin.val (sortedFrom_injective B h)
  rw [Fin.val_one, Fin.val_zero] at h'
  exact absurd h' (by decide)

end Cert.Router

end
-- ==== Proof.Spec.lean ====
module

public import proofs.«01_k».proof.Proof.TopTwo
public import Idealize.ShloMosaic.Lib.Pointwise

@[expose] public section

noncomputable section

/-! What one token's row of the layer computes, as plain functions of extended reals, and the laws of them that the
kernel and the reference are compared by. -/

namespace Cert.Router

open Idealize.ShloMosaic

/-! ## The literals -/

/-- The pattern of minus infinity denotes minus infinity. -/
theorem lit_bot : Ideal.ofBits .f32 0xFF800000#32 = ⊥ := by simp [Ideal.ofBits, Ideal.ieee]

/-- The literal that marks a position as taken denotes minus one. -/
theorem lit_neg_one : Ideal.ofBits .f32 0xBF800000#32 = ((-1 : ℝ) : EReal) := by
  simp [Ideal.ofBits, Ideal.ieee]
  rw [← EReal.coe_mul]
  norm_num

/-- The literal one half denotes one half. -/
theorem lit_half : Ideal.ofBits .f32 0x3F000000#32 = ((1 / 2 : ℝ) : EReal) := by
  simp [Ideal.ofBits, Ideal.ieee]
  rw [← EReal.coe_mul]
  norm_num

/-- The literal two denotes two. -/
theorem lit_two : Ideal.ofBits .f32 0x40000000#32 = ((2 : ℝ) : EReal) := by
  simp [Ideal.ofBits, Ideal.ieee]
  rw [← EReal.coe_mul]
  norm_num

/-! ## The exact GELU -/

/-- The exact GELU, `v / 2 · (1 + erf (v / √2))`. -/
def gelu (v : EReal) : EReal :=
  Ideal.ofBits .f32 0x3F000000#32 * v * (1 + Ideal.erf (v * (((Real.sqrt 2)⁻¹ : ℝ) : EReal)))

/-- The same function by the complementary error function and a division by the root of two. -/
theorem gelu_erfc (v : EReal) :
    Ideal.ofBits .f32 0x3F000000#32 * v
        * Ideal.erfc (Ideal.div (-v) (Ideal.sqrt (Ideal.ofBits .f32 0x40000000#32))) = gelu v := by
  have h2 : Ideal.sqrt (Ideal.ofBits .f32 0x40000000#32) = ((Real.sqrt 2 : ℝ) : EReal) := by
    rw [lit_two]
    exact if_neg (by norm_num)
  have hne : Real.sqrt 2 ≠ 0 := (Real.sqrt_pos.2 (by norm_num)).ne'
  rw [h2, Ideal.div_coe hne, one_div, EReal.neg_mul, Ideal.erfc_neg, gelu]

/-! ## The two perceptrons, the noise and the softmax -/

/-- One output of a perceptron with one hidden layer: `∑ o, gelu (∑ d, x d · W o d + b o) · w o + c`. -/
def mlp {n k : ℕ} (x : Fin n → EReal) (W : Fin k → Fin n → EReal) (b w : Fin k → EReal) (c : EReal) : EReal :=
  ∑ o, gelu (∑ d, x d * W o d + b o) * w o + c

/-- A score with Gumbel noise from the uniform draw `u`. -/
def noisy (s u : EReal) : EReal := s + (0 - Ideal.log (0 - Ideal.log u))

/-- The largest value of a row. -/
def peak {n : ℕ} (p : Fin n → EReal) : EReal := Finset.univ.fold max ⊥ p

/-- The softmax of a row. -/
def soft {n : ℕ} (l : Fin n → EReal) (e : Fin n) : EReal :=
  Ideal.div (Ideal.exp (l e - peak l)) (∑ k, Ideal.exp (l k - peak l))

/-! ## The two selections as the kernel makes them -/

/-- The smallest position at which a row takes its largest value, as a word. -/
def firstAt (p : Fin 16 → EReal) : BitVec 32 :=
  Finset.univ.fold IntOp.minsi 2147483647#32 fun e => if p e = peak p then BitVec.ofNat 32 e.val else 16#32

/-- A row with minus one at the position `w`. -/
def without (p : Fin 16 → EReal) (w : BitVec 32) (e : Fin 16) : EReal :=
  if BitVec.ofNat 32 e.val = w then Ideal.ofBits .f32 0xBF800000#32 else p e

/-- The largest value of a row, then the largest of the others. -/
def weights (p : Fin 16 → EReal) (k : Fin 2) : EReal := if k.val < 1 then peak p else peak (without p (firstAt p))

/-- The positions of those two. -/
def indices (p : Fin 16 → EReal) (k : Fin 2) : BitVec 32 :=
  if k.val < 1 then firstAt p else firstAt (without p (firstAt p))

/-- Where one position is ahead of all others, the row's largest value is there. -/
theorem peak_of_ahead (p : Fin 16 → EReal) (i : Fin 16) (h : ∀ j, j ≠ i → Ahead p i j) : peak p = p i := by
  refine le_antisymm (Finset.fold_max_le _ |>.2 ⟨bot_le, fun j _ => ?_⟩)
    (Finset.le_fold_max _ |>.2 (.inr ⟨i, Finset.mem_univ _, le_rfl⟩))
  by_cases hj : j = i
  · rw [hj]
  · rcases h j hj with h | ⟨h, _⟩
    · exact h.le
    · exact h.le

/-- The signed value of the smaller of two words is the smaller of their signed values. -/
theorem toInt_minsi (a b : BitVec 32) : (IntOp.minsi a b).toInt = min a.toInt b.toInt := by
  unfold IntOp.minsi
  by_cases h : a.toInt < b.toInt
  · rw [if_pos (by simpa [BitVec.slt] using h), min_eq_left h.le]
  · rw [if_neg (by simpa [BitVec.slt] using h), min_eq_right (not_lt.1 h)]

/-- A position of a row as a word has that position as its signed value. -/
theorem toInt_position (e : Fin 16) : (BitVec.ofNat 32 e.val).toInt = e.val := by
  revert e
  decide

/-- Where one position is ahead of all others, it is the one the smallest-position fold finds. -/
theorem firstAt_of_ahead (p : Fin 16 → EReal) (i : Fin 16) (h : ∀ j, j ≠ i → Ahead p i j) :
    firstAt p = BitVec.ofNat 32 i.val := by
  have hp := peak_of_ahead p i h
  apply BitVec.eq_of_toInt_eq
  rw [firstAt, ← Finset.fold_hom (op' := min) (m := BitVec.toInt) toInt_minsi, toInt_position]
  refine le_antisymm (Finset.fold_min_le _ |>.2 (.inr ⟨i, Finset.mem_univ _, ?_⟩)) (Finset.le_fold_min _ |>.2 ⟨?_, fun j _ => ?_⟩)
  · rw [if_pos hp.symm, toInt_position]
  · have : (2147483647#32 : BitVec 32).toInt = 2147483647 := by decide
    omega
  · by_cases hj : p j = peak p
    · rw [if_pos hj, toInt_position]
      by_cases hji : j = i
      · rw [hji]
      · rcases h j hji with h | ⟨_, h⟩
        · exact absurd (hj.trans hp) h.ne
        · exact_mod_cast h.le
    · rw [if_neg hj]
      have : (16#32 : BitVec 32).toInt = 16 := by decide
      omega

/-- Masking a position by its own word changes the row there alone. -/
theorem without_position (p : Fin 16 → EReal) (i j : Fin 16) :
    without p (BitVec.ofNat 32 i.val) j = if j = i then Ideal.ofBits .f32 0xBF800000#32 else p j := by
  have : BitVec.ofNat 32 j.val = BitVec.ofNat 32 i.val ↔ j = i :=
    ⟨fun h => Fin.ext (by
      have h' := congrArg BitVec.toInt h
      rw [toInt_position, toInt_position] at h'
      exact_mod_cast h'), fun h => h ▸ rfl⟩
  simp only [without, this]

section
variable (p : Fin 16 → EReal) (B : Fin 16 → Fin 16 → Bool) (hB : ∀ i j, B i j = true ↔ p j < p i)
include hB

/-- The first selection finds the first place of the stable descending sort. -/
theorem first_selection : peak p = p (sortedFrom B 0) ∧ firstAt p = BitVec.ofNat 32 (sortedFrom B 0).val :=
  ⟨peak_of_ahead p _ (ahead_first p B hB), firstAt_of_ahead p _ (ahead_first p B hB)⟩

/-- The second selection finds the second place, when no value of the row is as small as the mark of a taken position. -/
theorem second_selection (hp : ∀ e, Ideal.ofBits .f32 0xBF800000#32 < p e) :
    peak (without p (firstAt p)) = p (sortedFrom B 1)
      ∧ firstAt (without p (firstAt p)) = BitVec.ofNat 32 (sortedFrom B 1).val := by
  have hq : ∀ j, without p (firstAt p) j = if j = sortedFrom B 0 then Ideal.ofBits .f32 0xBF800000#32 else p j := by
    intro j
    rw [(first_selection p B hB).2, without_position]
  have h1 : without p (firstAt p) (sortedFrom B 1) = p (sortedFrom B 1) := by rw [hq, if_neg (second_ne_first B)]
  have hA : ∀ j, j ≠ sortedFrom B 1 → Ahead (without p (firstAt p)) (sortedFrom B 1) j := by
    intro j hj
    by_cases hj0 : j = sortedFrom B 0
    · exact .inl (by rw [h1, hq, if_pos hj0]; exact hp _)
    · have := ahead_second p B hB j hj0 hj
      unfold Ahead at this ⊢
      rwa [h1, hq, if_neg hj0]
  exact ⟨(peak_of_ahead _ _ hA).trans h1, firstAt_of_ahead _ _ hA⟩

/-- The two weights are the sorted row's first two values. -/
theorem weights_eq (hp : ∀ e, Ideal.ofBits .f32 0xBF800000#32 < p e) (k : Fin 2) :
    weights p k = p (sortedFrom B ⟨k.val, by omega⟩) := by
  unfold weights
  obtain ⟨k, hk⟩ := k
  interval_cases k
  · exact (first_selection p B hB).1
  · exact (second_selection p B hB hp).1

/-- The two indices are the sorted row's first two positions. -/
theorem indices_eq (hp : ∀ e, Ideal.ofBits .f32 0xBF800000#32 < p e) (k : Fin 2) :
    indices p k = BitVec.ofNat 32 (sortedFrom B ⟨k.val, by omega⟩).val := by
  unfold indices
  obtain ⟨k, hk⟩ := k
  interval_cases k
  · exact (first_selection p B hB).2
  · exact (second_selection p B hB hp).2

end

end Cert.Router

end
-- ==== Proof.Finite.lean ====
module

public import proofs.«01_k».proof.Proof.Spec

@[expose] public section

noncomputable section

/-! Where a row's inputs are finite its logits are finite, and then no softmax value is as small as minus one. -/

namespace Cert.Router

open Idealize.ShloMosaic

/-- An extended real that is a real number. -/
def Finite (x : EReal) : Prop := ∃ r : ℝ, x = (r : EReal)

/-- A sum of finite values is finite. -/
theorem Finite.add {x y : EReal} (hx : Finite x) (hy : Finite y) : Finite (x + y) := by
  obtain ⟨a, rfl⟩ := hx
  obtain ⟨b, rfl⟩ := hy
  exact ⟨a + b, (EReal.coe_add a b).symm⟩

/-- A product of finite values is finite. -/
theorem Finite.mul {x y : EReal} (hx : Finite x) (hy : Finite y) : Finite (x * y) := by
  obtain ⟨a, rfl⟩ := hx
  obtain ⟨b, rfl⟩ := hy
  exact ⟨a * b, (EReal.coe_mul a b).symm⟩

/-- A finite sum of finite terms is finite. -/
theorem Finite.sum {n : ℕ} (f : Fin n → EReal) (hf : ∀ k, Finite (f k)) : Finite (∑ k, f k) :=
  Finset.sum_induction f Finite (fun _ _ => Finite.add) ⟨0, EReal.coe_zero.symm⟩ fun k _ => hf k

/-- The exact GELU of a finite value is finite. -/
theorem Finite.gelu {v : EReal} (hv : Finite v) : Finite (gelu v) := by
  obtain ⟨a, rfl⟩ := hv
  refine ((Finite.mul ⟨_, lit_half⟩ ⟨a, rfl⟩).mul (Finite.add ⟨1, EReal.coe_one.symm⟩ ?_))
  rw [← EReal.coe_mul]
  exact ⟨_, rfl⟩

/-- A perceptron's output from finite inputs is finite. -/
theorem Finite.mlp {n k : ℕ} {x : Fin n → EReal} {W : Fin k → Fin n → EReal} {b w : Fin k → EReal} {c : EReal}
    (hx : ∀ d, Finite (x d)) (hW : ∀ o d, Finite (W o d)) (hb : ∀ o, Finite (b o)) (hw : ∀ o, Finite (w o))
    (hc : Finite c) : Finite (mlp x W b w c) :=
  (Finite.sum _ fun o => ((Finite.sum _ fun d => (hx d).mul (hW o d)).add (hb o)).gelu.mul (hw o)).add hc

/-- A finite score with the noise of a draw strictly between zero and one is finite. -/
theorem Finite.noisy {s u : EReal} (hs : Finite s) (h0 : 0 < u) (h1 : u < 1) : Finite (noisy s u) := by
  induction u with
  | bot => exact absurd h0 (by simp)
  | top => exact absurd h1 (by simp)
  | coe r =>
    have hr0 : 0 < r := by exact_mod_cast h0
    have hr1 : r < 1 := by exact_mod_cast h1
    have hl : 0 < 0 - Real.log r := by linarith [Real.log_neg hr0 hr1]
    have e1 : Ideal.log (r : EReal) = (Real.log r : EReal) := if_neg (not_le.2 hr0)
    have e2 : (0 : EReal) - (Real.log r : EReal) = ((0 - Real.log r : ℝ) : EReal) := by
      rw [EReal.coe_sub, EReal.coe_zero]
    have e3 : Ideal.log ((0 - Real.log r : ℝ) : EReal) = (Real.log (0 - Real.log r) : EReal) := if_neg (not_le.2 hl)
    refine hs.add ⟨0 - Real.log (0 - Real.log r), ?_⟩
    rw [e1, e2, e3, EReal.coe_sub, EReal.coe_zero]

/-- The exponential is never negative. -/
theorem exp_nonneg (x : EReal) : 0 ≤ Ideal.exp x := by
  induction x with
  | bot => exact le_rfl
  | top => exact le_top
  | coe r => exact EReal.coe_nonneg.2 (Real.exp_pos r).le

/-- The largest value of a row is one of its values. -/
theorem exists_peak (l : Fin 16 → EReal) : ∃ k, peak l = l k :=
  have h := ahead_first (n := 14) l (fun i j => decide (l j < l i)) fun i j => by simp
  ⟨_, peak_of_ahead l _ h⟩

/-- The softmax of a row of finite values is never negative, hence above the mark of a taken position. -/
theorem mark_lt_soft (l : Fin 16 → EReal) (hl : ∀ e, Finite (l e)) (e : Fin 16) :
    Ideal.ofBits .f32 0xBF800000#32 < soft l e := by
  have hS : 0 < ∑ k, Ideal.exp (l k - peak l) := by
    obtain ⟨k, hk⟩ := exists_peak l
    obtain ⟨r, hr⟩ := hl k
    have h1 : Ideal.exp (l k - peak l) = ((Real.exp (r - r) : ℝ) : EReal) := by
      rw [hk, hr, ← EReal.coe_sub]
      rfl
    have h2 : 0 < Ideal.exp (l k - peak l) := by
      rw [h1]
      exact EReal.coe_pos.2 (Real.exp_pos _)
    exact h2.trans_le (Finset.single_le_sum (f := fun k => Ideal.exp (l k - peak l)) (fun k _ => exp_nonneg _)
      (Finset.mem_univ k))
  have h0 : 0 ≤ soft l e := by
    rw [soft, Ideal.div, if_neg hS.ne']
    exact mul_nonneg (exp_nonneg _) (EReal.inv_nonneg_of_nonneg hS.le)
  refine lt_of_lt_of_le ?_ h0
  rw [lit_neg_one]
  exact EReal.coe_neg'.2 (by norm_num)

end Cert.Router

end
-- ==== Proof.Layer.lean ====
module

public import proofs.«01_k».proof.Proof.Finite

@[expose] public section

set_option maxRecDepth 16384

noncomputable section

/-! The five results of the layer at every token, as functions of the ten argument arrays. -/

namespace Cert.Router

open Idealize.ShloMosaic

/-- The ten argument arrays: the tokens, the router's two layers, the baseline's two layers and the uniform draws. -/
structure Args where
  x : FVec Ideal ⟨3, ![4, 2048, 1024]⟩ .f32
  wr1 : FVec Ideal ⟨2, ![1024, 1024]⟩ .f32
  br1 : FVec Ideal ⟨1, ![1024]⟩ .f32
  wr2 : FVec Ideal ⟨2, ![16, 1024]⟩ .f32
  br2 : FVec Ideal ⟨1, ![16]⟩ .f32
  wb1 : FVec Ideal ⟨2, ![1024, 1024]⟩ .f32
  bb1 : FVec Ideal ⟨1, ![1024]⟩ .f32
  wb2 : FVec Ideal ⟨2, ![1, 1024]⟩ .f32
  bb2 : FVec Ideal ⟨1, ![1]⟩ .f32
  u : FVec Ideal ⟨3, ![4, 2048, 16]⟩ .f32

namespace Args

variable (A : Args)

/-- The score of expert `e` for token `j` of batch entry `i`. -/
def score (i : Fin 4) (j : Fin 2048) (e : Fin 16) : EReal :=
  mlp (fun d => A.x (ix3 i j d)) (fun o d => A.wr1 (ix2 o d)) (fun o => A.br1 (ix1 o)) (fun o => A.wr2 (ix2 e o))
    (A.br2 (ix1 e))

/-- The baseline of token `j` of batch entry `i`. -/
def base (i : Fin 4) (j : Fin 2048) : EReal :=
  mlp (fun d => A.x (ix3 i j d)) (fun o d => A.wb1 (ix2 o d)) (fun o => A.bb1 (ix1 o)) (fun o => A.wb2 (ix2 0 o))
    (A.bb2 (ix1 0))

/-- The expert probabilities of that token: the softmax of its noisy scores. -/
def probs (i : Fin 4) (j : Fin 2048) : Fin 16 → EReal := soft fun e => noisy (A.score i j e) (A.u (ix3 i j e))

/-- The router's inputs are finite and the draws lie strictly between zero and one. -/
structure Tame : Prop where
  x : ∀ i j d, Finite (A.x (ix3 i j d))
  wr1 : ∀ o d, Finite (A.wr1 (ix2 o d))
  br1 : ∀ o, Finite (A.br1 (ix1 o))
  wr2 : ∀ e o, Finite (A.wr2 (ix2 e o))
  br2 : ∀ e, Finite (A.br2 (ix1 e))
  pos : ∀ i j e, 0 < A.u (ix3 i j e)
  lt_one : ∀ i j e, A.u (ix3 i j e) < 1

/-- With tame arguments every probability is above the mark of a taken position. -/
theorem mark_lt_probs (h : A.Tame) (i : Fin 4) (j : Fin 2048) (e : Fin 16) :
    Ideal.ofBits .f32 0xBF800000#32 < A.probs i j e :=
  mark_lt_soft _ (fun e => Finite.noisy (Finite.mlp (h.x i j) h.wr1 h.br1 (h.wr2 e) (h.br2 e)) (h.pos i j e)
    (h.lt_one i j e)) e

end Args

end Cert.Router

end
-- ==== Proof.Reference.lean ====
module

public import proofs.«01_k».proof.Proof.Layer
public import proofs.«01_k».proof.Proof.Gen.ReferenceIdeal.Run

@[expose] public section

set_option maxRecDepth 16384

noncomputable section

/-! The reference's five results at every token are the layer's. -/

namespace Cert.ReferenceIdeal.Rows

open Idealize.ShloMosaic Idealize.ShloMosaic.TcCoe Idealize.SL.Sem
open Cert.ReferenceIdeal Cert.ReferenceIdeal.Gen Cert.ReferenceIdeal.Value Cert.Router

/-- "Goes before" in the reference's sort of a row: the larger value first. -/
def before (p : Fin 16 → EReal) (i j : Fin 16) : Bool := Ideal.cmp .ogt (p i) (p j) == 1#1

/-- A position goes before another exactly when its value is larger. -/
theorem before_iff (p : Fin 16 → EReal) (i j : Fin 16) : before p i j = true ↔ p j < p i := by
  by_cases h : p j < p i <;> simp [before, Ideal.cmp, h]

/-- Replacing the last coordinate of a multi-index. -/
theorem along_last (b : Fin 4) (s : Fin 2048) (k k' : Fin 16) :
    (ix3 b s k : S4x2048x16.Idx).along (2 : Fin 3) k' = ix3 b s k' := by
  funext a
  unfold Shape.Idx.along
  fin_cases a
  · exact Function.update_of_ne (by decide) _ _
  · exact Function.update_of_ne (by decide) _ _
  · exact Function.update_self _ _ _

/-- The reference's joint stable sort of the rows of `P` with any second operand, read at an index. -/
theorem sort_values (P : FVec Ideal S4x2048x16 .f32) (J : IVec S4x2048x16 32) (b : Fin 4) (s : Fin 2048) (k : Fin 16) :
    (Host.sort2 S4x2048x16 2 (fun l r => FloatOps.cmpfTotal (F := Ideal) (φ := .f32) .gt l.1 r.1) P J).1 (ix3 b s k)
        = P (ix3 b s (sortedFrom (before fun e => P (ix3 b s e)) k))
      ∧ (Host.sort2 S4x2048x16 2 (fun l r => FloatOps.cmpfTotal (F := Ideal) (φ := .f32) .gt l.1 r.1) P J).2 (ix3 b s k)
        = J (ix3 b s (sortedFrom (before fun e => P (ix3 b s e)) k)) := by
  have hd : 2 < S4x2048x16.rank := by decide
  unfold Host.sort2
  rw [dif_pos hd]
  have hB : (fun i j : Fin 16 => FloatOps.cmpfTotal (F := Ideal) (φ := .f32) .gt
      (P ((ix3 b s k : S4x2048x16.Idx).along (2 : Fin 3) i)) (P ((ix3 b s k : S4x2048x16.Idx).along (2 : Fin 3) j)) == 1#1)
      = before fun e => P (ix3 b s e) := by
    funext i j
    rw [along_last, along_last]
    rfl
  have hk : ∀ i : Fin 16, (ix3 b s k : S4x2048x16.Idx).along (2 : Fin 3) i = ix3 b s i := along_last b s k
  constructor
  · show P ((ix3 b s k : S4x2048x16.Idx).along (2 : Fin 3) (sortedFrom (fun i j : Fin 16 =>
      FloatOps.cmpfTotal (F := Ideal) (φ := .f32) .gt (P ((ix3 b s k : S4x2048x16.Idx).along (2 : Fin 3) i))
        (P ((ix3 b s k : S4x2048x16.Idx).along (2 : Fin 3) j)) == 1#1) k)) = _
    rw [hB]
    exact congrArg P (hk _)
  · show J ((ix3 b s k : S4x2048x16.Idx).along (2 : Fin 3) (sortedFrom (fun i j : Fin 16 =>
      FloatOps.cmpfTotal (F := Ideal) (φ := .f32) .gt (P ((ix3 b s k : S4x2048x16.Idx).along (2 : Fin 3) i))
        (P ((ix3 b s k : S4x2048x16.Idx).along (2 : Fin 3) j)) == 1#1) k)) = _
    rw [hB]
    exact congrArg J (hk _)

/-- The two values of the reference's selection are the first two of the sorted row. -/
theorem topK_values (P : FVec Ideal S4x2048x16 .f32) (h) (b : Fin 4) (s : Fin 2048) (k : Fin 2) :
    (Host.topK S4x2048x2 2 (FloatOps.cmpfTotal .gt) P h).1 (ix3 b s k)
      = P (ix3 b s (sortedFrom (before fun e => P (ix3 b s e)) ⟨k.val, by omega⟩)) := by
  unfold Host.topK
  dsimp only
  pointwise
  exact (sort_values P _ b s ⟨k.val, by omega⟩).1

/-- The two indices of the reference's selection are the first two positions of the sorted row. -/
theorem topK_indices (P : FVec Ideal S4x2048x16 .f32) (h) (b : Fin 4) (s : Fin 2048) (k : Fin 2) :
    (Host.topK S4x2048x2 2 (FloatOps.cmpfTotal .gt) P h).2 (ix3 b s k)
      = BitVec.ofNat 32 (sortedFrom (before fun e => P (ix3 b s e)) ⟨k.val, by omega⟩).val := by
  unfold Host.topK
  dsimp only
  pointwise
  refine (sort_values P _ b s ⟨k.val, by omega⟩).2.trans ?_
  generalize sortedFrom (before fun e => P (ix3 b s e)) ⟨k.val, _⟩ = e
  rfl

/-! ## The stages before the selection, read at a token -/

/-- The hidden layer of a perceptron over all tokens, as the reference writes it. -/
def hiddenT (x : FVec Ideal S4x2048x1024 .f32) (w : FVec Ideal S1024x1024 .f32) (b : FVec Ideal S1024 .f32) :
    FVec Ideal S4x2048x1024 .f32 :=
  have v : FVec Ideal S4x2048x1024 .f32 :=
    addf (Host.dotGeneral dot_S4x2048x1024_S1024x1024_S4x2048x1024_2_1_01_0_n_n none x w)
      (broadcastInDim S4x2048x1024 ![0, 1, 2] bcast_S1x1x1024_S4x2048x1024_0_1_2
        (broadcastInDim S1x1x1024 ![2] bcast_S1024_S1x1x1024_2 b))
  mulf (mulf (broadcastInDim S4x2048x1024 ![] bcast_S_S4x2048x1024 (constant S_ .f32 0x3F000000#32)) v)
    (Host.erfc (Host.divf (Host.negf v)
      (broadcastInDim S4x2048x1024 ![] bcast_S_S4x2048x1024 (Host.sqrt (constant S_ .f32 0x40000000#32)))))

/-- A hidden unit is the exact GELU of its affine form. -/
theorem hiddenT_at (x : FVec Ideal S4x2048x1024 .f32) (w : FVec Ideal S1024x1024 .f32) (b : FVec Ideal S1024 .f32)
    (i : Fin 4) (j : Fin 2048) (o : Fin 1024) :
    hiddenT x w b (ix3 i j o) = gelu (∑ d, x (ix3 i j d) * w (ix2 o d) + b (ix1 o)) := by
  pointwise [hiddenT]
  exact gelu_erfc _

/-- The scores over all tokens, as the reference writes them. -/
def scoresT (A : Args) : FVec Ideal S4x2048x16 .f32 :=
  addf (Host.dotGeneral dot_S4x2048x1024_S16x1024_S4x2048x16_2_1_01_0_n_n none (hiddenT A.x A.wr1 A.br1) A.wr2)
    (broadcastInDim S4x2048x16 ![0, 1, 2] bcast_S1x1x16_S4x2048x16_0_1_2
      (broadcastInDim S1x1x16 ![2] bcast_S16_S1x1x16_2 A.br2))

/-- The reference's scores are the layer's. -/
theorem scoresT_at (A : Args) (i : Fin 4) (j : Fin 2048) (e : Fin 16) : scoresT A (ix3 i j e) = A.score i j e := by
  pointwise [scoresT]
  simp only [hiddenT_at, Args.score, mlp]

/-- The baseline over all tokens, as the reference writes it. -/
def baseT (A : Args) : FVec Ideal S4x2048 .f32 :=
  shapeCast S4x2048 (addf (Host.dotGeneral dot_S4x2048x1024_S1x1024_S4x2048x1_2_1_01_0_n_n none (hiddenT A.x A.wb1 A.bb1) A.wb2)
    (broadcastInDim S4x2048x1 ![0, 1, 2] bcast_S1x1x1_S4x2048x1_0_1_2
      (broadcastInDim S1x1x1 ![2] bcast_S1_S1x1x1_2 A.bb2))) shapeCasts_S4x2048x1_S4x2048

/-- The reference's baseline is the layer's. -/
theorem baseT_at (A : Args) (i : Fin 4) (j : Fin 2048) : baseT A (ix2 i j) = A.base i j := by
  pointwise [baseT]
  simp only [hiddenT_at, Args.base, mlp]

/-- The noisy scores over all tokens, as the reference writes them. -/
def noisyT (A : Args) : FVec Ideal S4x2048x16 .f32 :=
  Host.divf (addf (scoresT A) (Host.negf (Host.log (Host.negf (Host.log A.u)))))
    (broadcastInDim S4x2048x16 ![] bcast_S_S4x2048x16 (constant S_ .f32 0x3F800000#32))

/-- Division by the temperature one changes nothing. -/
theorem div_one (v : EReal) : Ideal.div v 1 = v := by
  rw [← EReal.coe_one, Ideal.div_coe one_ne_zero, _root_.div_one, EReal.coe_one, mul_one]

/-- The reference's noisy scores are the layer's. -/
theorem noisyT_at (A : Args) (i : Fin 4) (j : Fin 2048) (e : Fin 16) :
    noisyT A (ix3 i j e) = noisy (A.score i j e) (A.u (ix3 i j e)) := by
  pointwise [noisyT]
  rw [div_one, scoresT_at, noisy, zero_sub, zero_sub]

/-- The exponentials of a row shifted by its largest value, as the reference writes them. -/
def shiftedT (l : FVec Ideal S4x2048x16 .f32) : FVec Ideal S4x2048x16 .f32 :=
  Host.exp (subf l (broadcastInDim S4x2048x16 ![0, 1, 2] bcast_S4x2048x1_S4x2048x16_0_1_2
    (broadcastInDim S4x2048x1 ![0, 1] bcast_S4x2048_S4x2048x1_0_1
      (maximumf (broadcastInDim S4x2048 ![] bcast_S_S4x2048 (constant S_ .f32 0xFF800000#32))
        (Host.reduce FloatOps.maximumf l (constant S_ .f32 0xFF800000#32) reducesTo_S4x2048x16_S4x2048_d2 h_S_)))))

/-- The exponential of a row less its largest value. -/
theorem shiftedT_at (l : FVec Ideal S4x2048x16 .f32) (i : Fin 4) (j : Fin 2048) (e : Fin 16) :
    shiftedT l (ix3 i j e) = Ideal.exp (l (ix3 i j e) - peak fun k => l (ix3 i j k)) := by
  pointwise [shiftedT]
  rw [lit_bot, max_eq_right bot_le, peak]

/-- The probabilities over all tokens, as the reference writes them. -/
def probsT (l : FVec Ideal S4x2048x16 .f32) : FVec Ideal S4x2048x16 .f32 :=
  Host.divf (shiftedT l) (broadcastInDim S4x2048x16 ![0, 1, 2] bcast_S4x2048x1_S4x2048x16_0_1_2
    (broadcastInDim S4x2048x1 ![0, 1] bcast_S4x2048_S4x2048x1_0_1
      (Host.reduceAdd (shiftedT l) (constant S_ .f32 0x00000000#32) reducesTo_S4x2048x16_S4x2048_d2 h_S_)))

/-- The reference's softmax of a row is the row's softmax. -/
theorem probsT_at (l : FVec Ideal S4x2048x16 .f32) (i : Fin 4) (j : Fin 2048) (e : Fin 16) :
    probsT l (ix3 i j e) = soft (fun k => l (ix3 i j k)) e := by
  pointwise [probsT]
  simp only [shiftedT_at, soft]

/-- The reference's probabilities of a token are the layer's. -/
theorem probsT_row (A : Args) (i : Fin 4) (j : Fin 2048) : (fun e => probsT (noisyT A) (ix3 i j e)) = A.probs i j := by
  funext e
  rw [probsT_at]
  simp only [noisyT_at, Args.probs]

/-! ## The five results -/

section
variable (m : (ℓ : Loc nD τ sig) → Buf (Elt Ideal) ℓ) (c : Dev nD)

/-- The argument arrays of the reference in a memory. -/
def args : Args where
  x := m ((c.tc : Thread nD τ).loc main_arg0)
  wr1 := m ((c.tc : Thread nD τ).loc main_arg1)
  br1 := m ((c.tc : Thread nD τ).loc main_arg2)
  wr2 := m ((c.tc : Thread nD τ).loc main_arg3)
  br2 := m ((c.tc : Thread nD τ).loc main_arg4)
  wb1 := m ((c.tc : Thread nD τ).loc main_arg5)
  bb1 := m ((c.tc : Thread nD τ).loc main_arg6)
  wb2 := m ((c.tc : Thread nD τ).loc main_arg7)
  bb2 := m ((c.tc : Thread nD τ).loc main_arg8)
  u := m ((c.tc : Thread nD τ).loc main_arg9)

/-- The selection's values over all tokens, as the reference writes them. -/
def weightsT (A : Args) : FVec Ideal S4x2048x2 .f32 :=
  (Host.topK S4x2048x2 2 (FloatOps.cmpfTotal .gt) (probsT (noisyT A)) sliceFits_S4x2048x16_S4x2048x2).1

/-- The selection's indices over all tokens, as the reference writes them. -/
def indicesT (A : Args) : IVec S4x2048x2 32 :=
  (Host.topK S4x2048x2 2 (FloatOps.cmpfTotal .gt) (probsT (noisyT A)) sliceFits_S4x2048x16_S4x2048x2).2

/-- The advantages over all tokens, as the reference writes them. -/
def gradT (A : Args) : FVec Ideal S4x2048x2 .f32 :=
  subf (weightsT A) (broadcastInDim S4x2048x2 ![0, 1, 2] bcast_S4x2048x1_S4x2048x2_0_1_2
    (broadcastInDim S4x2048x1 ![0, 1] bcast_S4x2048_S4x2048x1_0_1 (baseT A)))

/-- The reference's weights of a token are the layer's. -/
theorem weightsT_at (A : Args) (h : A.Tame) (i : Fin 4) (j : Fin 2048) (k : Fin 2) :
    weightsT A (ix3 i j k) = weights (A.probs i j) k := by
  refine (topK_values _ _ i j k).trans ?_
  rw [weights_eq _ _ (before_iff _) (A.mark_lt_probs h i j), probsT_row]
  exact congrFun (probsT_row A i j) _

/-- The reference's indices of a token are the layer's. -/
theorem indicesT_at (A : Args) (h : A.Tame) (i : Fin 4) (j : Fin 2048) (k : Fin 2) :
    indicesT A (ix3 i j k) = indices (A.probs i j) k := by
  refine (topK_indices _ _ i j k).trans ?_
  rw [indices_eq _ _ (before_iff _) (A.mark_lt_probs h i j), probsT_row]

/-- The reference's advantages of a token are the layer's. -/
theorem gradT_at (A : Args) (h : A.Tame) (i : Fin 4) (j : Fin 2048) (k : Fin 2) :
    gradT A (ix3 i j k) = weights (A.probs i j) k - A.base i j := by
  pointwise [gradT]
  rw [weightsT_at A h, baseT_at]

/-- The reference's run ends with the five arrays above. -/
theorem run_arrays (ρ : Dev nD → PrngReg) :
    θ_run defs (onTc (τ := τ) (main (F := Ideal))) ⟨m, fun _ => 0, ρ⟩ fun r => ∀ c : Dev nD,
      r.2.mem ((c.tc : Thread nD τ).loc main_values) = weightsT (args m c)
      ∧ r.2.mem ((c.tc : Thread nD τ).loc main_indices) = indicesT (args m c)
      ∧ r.2.mem ((c.tc : Thread nD τ).loc main_v32) = baseT (args m c)
      ∧ r.2.mem ((c.tc : Thread nD τ).loc main_v53) = gradT (args m c)
      ∧ r.2.mem ((c.tc : Thread nD τ).loc main_v15) = scoresT (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (run (F := Ideal) m ρ)
  obtain ⟨h0, h1, h2, h3, h4, h5⟩ := h c
  exact ⟨h0, h1, h2, h3, h4, h5⟩

end

end Cert.ReferenceIdeal.Rows

end
-- ==== Proof.Stream.lean ====
module

public import proofs.«01_k».proof.Proof.Layer
public import proofs.«01_k».proof.Proof.Gen.KernelIdeal.Skeleton

@[expose] public section

set_option maxRecDepth 16384

noncomputable section

/-! What the kernel body computes for one block of 1024 tokens, row by row: the layer's functions of the block's rows. The
body does the same work for two blocks, the second with the operations grouped otherwise; the two groupings are the same
functions. -/

namespace Cert.KernelIdeal.Stream

open Idealize.ShloMosaic Idealize.ShloMosaic.TcCoe Idealize.SL.Sem
open Cert.KernelIdeal Cert.KernelIdeal.Gen Cert.Router

/-- The kernel's named constant is the inverse of the root of two. -/
theorem inv_sqrt2 : Named.named (F := Ideal) (φ := .f32) κ "inv_sqrt2" 0x3F3504F3#32 = (((Real.sqrt 2)⁻¹ : ℝ) : EReal) :=
  IdealRules.named_const.ideal_named_scalar _ _ _ _ rfl

section
variable (X : FVec Ideal S1x1024x1024 .f32) (U : FVec Ideal S1x1024x16 .f32) (W : FVec Ideal S1024x1024 .f32)
  (B : FVec Ideal S1x1024 .f32) (W2 : FVec Ideal S16x1024 .f32) (B2 : FVec Ideal S1x16 .f32)
  (V2 : FVec Ideal S128x1024 .f32) (b2 : EReal)

/-- The score of row `r` of a block for expert `e`. -/
theorem scores_at (r : Fin 1024) (e : Fin 16) :
    k0_pay7 (F := Ideal) X W B W2 B2 (ix2 r e)
      = mlp (fun d => X (ix3 0 r d)) (fun o d => W (ix2 o d)) (fun o => B (ix2 0 o)) (fun o => W2 (ix2 e o)) (B2 (ix2 0 e)) := by
  pointwise [k0_pay7, k0_pay5]
  rw [inv_sqrt2]
  rfl

/-- The baseline of row `r` of a block. -/
theorem base_at (r : Fin 1024) (e : Fin 1) :
    k0_pay11 (F := Ideal) (k0_pay8 X W B) (k0_pay9 X W B) k0_pay10 V2 b2 (ix2 r e)
      = mlp (fun d => X (ix3 0 r d)) (fun o d => W (ix2 o d)) (fun o => B (ix2 0 o)) (fun o => V2 (ix2 0 o)) b2 := by
  pointwise [k0_pay11, k0_pay10, k0_pay9, k0_pay8, k0_pay5]
  rw [inv_sqrt2]
  rfl

end

section
variable (U S : FVec Ideal S1024x16 .f32)

/-- The probabilities of row `r`. -/
def probs (r : Fin 1024) : Fin 16 → EReal := soft fun e => noisy (S (ix2 r e)) (U (ix2 r e))

/-- The probabilities a block computes from its scores, at a row. -/
theorem probs_at (r : Fin 1024) (e : Fin 16) : k0_pay12 (F := Ideal) U S (ix2 r e) = probs U S r e := by
  pointwise [k0_pay12]
  rw [lit_bot]
  rfl

/-- The first weight of row `r`. -/
theorem first_at (r : Fin 1024) (e : Fin 1) : k0_pay13 (F := Ideal) U S (ix2 r e) = peak (probs U S r) := by
  pointwise [k0_pay13]
  simp only [probs_at, lit_bot]
  rfl

/-- The first index of row `r`. -/
theorem firstAt_at (r : Fin 1024) (e : Fin 1) : k0_pay14 (F := Ideal) U S (ix2 r e) = firstAt (probs U S r) := by
  pointwise [k0_pay14]
  simp only [probs_at, first_at, firstAt]

/-- The row with its first selection masked. -/
theorem masked_at (r : Fin 1024) (e : Fin 16) :
    k0_pay15 (F := Ideal) U S (ix2 r e) = without (probs U S r) (firstAt (probs U S r)) e := by
  pointwise [k0_pay15]
  simp only [probs_at, firstAt_at, without]
  by_cases h : BitVec.ofNat 32 e.val = firstAt (probs U S r)
  · simp [Scalar.select, IntOp.cmpi, h]
  · simp [Scalar.select, IntOp.cmpi, h, beq_false_of_ne h]

/-- The second weight of row `r`. -/
theorem second_at (r : Fin 1024) (e : Fin 1) :
    k0_pay16 (F := Ideal) U S (ix2 r e) = peak (without (probs U S r) (firstAt (probs U S r))) := by
  pointwise [k0_pay16]
  simp only [masked_at, lit_bot]
  rfl

/-- The two weights of row `r`. -/
theorem weights_at (r : Fin 1024) (k : Fin 2) :
    k0_pay18 (F := Ideal) (k0_pay13 U S) (k0_pay16 U S) (ix2 r k) = weights (probs U S r) k := by
  pointwise [k0_pay18]
  simp only [first_at, second_at, dite_eq_ite]
  rfl

/-- The two indices of row `r`. -/
theorem indices_at (r : Fin 1024) (k : Fin 2) :
    k0_pay20 (iota .tc S1024x16 32 [1] iota_S1024x16_d1_w32) (k0_pay14 (F := Ideal) U S) (k0_pay17 (F := Ideal) U S) (ix3 0 r k)
      = indices (probs U S r) k := by
  pointwise [k0_pay20, k0_pay17]
  simp only [firstAt_at, masked_at, second_at, dite_eq_ite]
  rfl

end

/-! ## A block of tokens -/

/-- The operands of one block hold the rows `τ r` of batch entry `i` and the weights of the layer `A`. -/
structure Holds (A : Args) (i : Fin 4) (τ : Fin 1024 → Fin 2048) (X : FVec Ideal S1x1024x1024 .f32)
    (U : FVec Ideal S1x1024x16 .f32) (W1 : FVec Ideal S1024x1024 .f32) (B1 : FVec Ideal S1x1024 .f32)
    (W2 : FVec Ideal S16x1024 .f32) (B2 : FVec Ideal S1x16 .f32) (V1 : FVec Ideal S1024x1024 .f32)
    (C1 : FVec Ideal S1x1024 .f32) (V2 : FVec Ideal S128x1024 .f32) (b2 : EReal) : Prop where
  x : ∀ r d, X (ix3 0 r d) = A.x (ix3 i (τ r) d)
  u : ∀ r e, U (ix3 0 r e) = A.u (ix3 i (τ r) e)
  wr1 : ∀ o d, W1 (ix2 o d) = A.wr1 (ix2 o d)
  br1 : ∀ o, B1 (ix2 0 o) = A.br1 (ix1 o)
  wr2 : ∀ e o, W2 (ix2 e o) = A.wr2 (ix2 e o)
  br2 : ∀ e, B2 (ix2 0 e) = A.br2 (ix1 e)
  wb1 : ∀ o d, V1 (ix2 o d) = A.wb1 (ix2 o d)
  bb1 : ∀ o, C1 (ix2 0 o) = A.bb1 (ix1 o)
  wb2 : ∀ o, V2 (ix2 0 o) = A.wb2 (ix2 0 o)
  bb2 : b2 = A.bb2 (ix1 0)

section
variable {A : Args} {i : Fin 4} {τ : Fin 1024 → Fin 2048} {X : FVec Ideal S1x1024x1024 .f32}
  {U : FVec Ideal S1x1024x16 .f32} {W1 : FVec Ideal S1024x1024 .f32} {B1 : FVec Ideal S1x1024 .f32}
  {W2 : FVec Ideal S16x1024 .f32} {B2 : FVec Ideal S1x16 .f32} {V1 : FVec Ideal S1024x1024 .f32}
  {C1 : FVec Ideal S1x1024 .f32} {V2 : FVec Ideal S128x1024 .f32} {b2 : EReal}
  (h : Holds A i τ X U W1 B1 W2 B2 V1 C1 V2 b2)
include h

/-- A block's scores of a row are its token's. -/
theorem block_score (r : Fin 1024) (e : Fin 16) : k0_pay7 (F := Ideal) X W1 B1 W2 B2 (ix2 r e) = A.score i (τ r) e := by
  rw [scores_at]
  simp only [h.x, h.wr1, h.br1, h.wr2, h.br2, Args.score]

/-- A block's baseline of a row is its token's. -/
theorem block_base (r : Fin 1024) (e : Fin 1) :
    k0_pay11 (F := Ideal) (k0_pay8 X V1 C1) (k0_pay9 X V1 C1) k0_pay10 V2 b2 (ix2 r e) = A.base i (τ r) := by
  rw [base_at]
  simp only [h.x, h.wb1, h.bb1, h.wb2, h.bb2, Args.base]

/-- A block's probabilities of a row are its token's. -/
theorem block_probs (r : Fin 1024) :
    probs (k0_pay6 (F := Ideal) U) (k0_pay7 (F := Ideal) X W1 B1 W2 B2) r = A.probs i (τ r) := by
  have hu : ∀ e, k0_pay6 (F := Ideal) U (ix2 r e) = A.u (ix3 i (τ r) e) := fun e => by
    pointwise [k0_pay6]
    exact h.u r e
  simp only [probs, hu, block_score h, Args.probs]

/-- The stored weights. -/
theorem store_weights (r : Fin 1024) (k : Fin 2) :
    k0_pay19 (F := Ideal) (k0_pay13 (k0_pay6 U) (k0_pay7 X W1 B1 W2 B2)) (k0_pay16 (k0_pay6 U) (k0_pay7 X W1 B1 W2 B2))
      (ix3 0 r k) = weights (A.probs i (τ r)) k := by
  pointwise [k0_pay19]
  rw [weights_at, block_probs h]

/-- The stored indices. -/
theorem store_indices (r : Fin 1024) (k : Fin 2) :
    k0_pay20 (iota .tc S1024x16 32 [1] iota_S1024x16_d1_w32) (k0_pay14 (F := Ideal) (k0_pay6 U) (k0_pay7 X W1 B1 W2 B2))
      (k0_pay17 (F := Ideal) (k0_pay6 U) (k0_pay7 X W1 B1 W2 B2)) (ix3 0 r k) = indices (A.probs i (τ r)) k := by
  rw [indices_at, block_probs h]

/-- The stored baselines. -/
theorem store_base (r : Fin 1024) (e : Fin 1) :
    k0_pay21 (F := Ideal) (k0_pay11 (k0_pay8 X V1 C1) (k0_pay9 X V1 C1) k0_pay10 V2 b2) (ix3 0 r e) = A.base i (τ r) := by
  pointwise [k0_pay21]
  rw [block_base h]

/-- The stored advantages. -/
theorem store_grad (r : Fin 1024) (k : Fin 2) :
    k0_pay22 (F := Ideal) (k0_pay11 (k0_pay8 X V1 C1) (k0_pay9 X V1 C1) k0_pay10 V2 b2)
      (k0_pay13 (k0_pay6 U) (k0_pay7 X W1 B1 W2 B2)) (k0_pay16 (k0_pay6 U) (k0_pay7 X W1 B1 W2 B2)) (ix3 0 r k)
      = weights (A.probs i (τ r)) k - A.base i (τ r) := by
  pointwise [k0_pay22]
  rw [weights_at, block_probs h, block_base h]

/-- The stored scores. -/
theorem store_scores (r : Fin 1024) (e : Fin 16) :
    k0_pay23 (F := Ideal) (k0_pay7 X W1 B1 W2 B2) (ix3 0 r e) = A.score i (τ r) e := by
  pointwise [k0_pay23]
  exact block_score h r e

/-! The second block's stores, in their own grouping. -/

/-- The second stream stores its tokens' weights. -/
theorem store_weights' (r : Fin 1024) (k : Fin 2) :
    k0_pay38 (F := Ideal) (k0_pay25 U) (k0_pay27 (k0_pay26 X W1) B1 W2 B2) (ix3 0 r k) = weights (A.probs i (τ r)) k :=
  store_weights h r k

/-- The second stream stores its tokens' indices. -/
theorem store_indices' (r : Fin 1024) (k : Fin 2) :
    k0_pay1 (k0_pay36 (F := Ideal) (k0_pay25 U) (k0_pay27 (k0_pay26 X W1) B1 W2 B2)) (ix3 0 r k)
      = indices (A.probs i (τ r)) k :=
  store_indices h r k

/-- The second stream stores its tokens' baselines. -/
theorem store_base' (r : Fin 1024) (e : Fin 1) :
    k0_pay2 (F := Ideal) (k0_pay29 (k0_pay28 (k0_pay24 X) V1 C1 V2) b2) (ix3 0 r e) = A.base i (τ r) :=
  store_base h r e

/-- The second stream stores its tokens' advantages. -/
theorem store_grad' (r : Fin 1024) (k : Fin 2) :
    k0_pay3 (F := Ideal) (k0_pay37 (k0_pay25 U) (k0_pay27 (k0_pay26 X W1) B1 W2 B2) (k0_pay28 (k0_pay24 X) V1 C1 V2) b2)
      (ix3 0 r k) = weights (A.probs i (τ r)) k - A.base i (τ r) :=
  store_grad h r k

/-- The second stream stores its tokens' scores. -/
theorem store_scores' (r : Fin 1024) (e : Fin 16) :
    k0_pay4 (F := Ideal) (k0_pay27 (k0_pay26 X W1) B1 W2 B2) (ix3 0 r e) = A.score i (τ r) e :=
  store_scores h r e

end

end Cert.KernelIdeal.Stream

end
-- ==== Proof.Arrays.lean ====
module

public import proofs.«01_k».proof.Proof.Stream
public import proofs.«01_k».proof.Proof.Gen.KernelIdeal.Frame
public import Idealize.ShloMosaic.Lib.Pipeline.ValueKit

@[expose] public section

set_option maxRecDepth 16384

noncomputable section

/-! The blocks the grid's points read, as rows of the argument arrays. -/

namespace Cert.KernelIdeal.Arrays

open Idealize.ShloMosaic Idealize.ShloMosaic.TcCoe Idealize.SL.Sem
open Cert.KernelIdeal Cert.KernelIdeal.Gen Cert.Router

/-- The block coordinates every window takes at a point. -/
theorem idx : ∀ t : Fin cfg0.N,
    win0_0.index t = ![t.val / 2, t.val % 2, 0] ∧ win0_1.index t = ![2 + t.val / 2, t.val % 2, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![t.val / 2, t.val % 2, 0] ∧ win0_11.index t = ![2 + t.val / 2, t.val % 2, 0]
    ∧ win0_12.index t = ![t.val / 2, t.val % 2, 0] ∧ win0_13.index t = ![t.val / 2, t.val % 2, 0]
    ∧ win0_14.index t = ![t.val / 2, t.val % 2, 0] ∧ win0_15.index t = ![t.val / 2, t.val % 2, 0]
    ∧ win0_16.index t = ![t.val / 2, t.val % 2, 0] ∧ win0_17.index t = ![t.val / 2, t.val % 2, 0]
    ∧ win0_18.index t = ![t.val / 2, t.val % 2, 0] ∧ win0_19.index t = ![t.val / 2, t.val % 2, 0]
    ∧ win0_20.index t = ![t.val / 2, t.val % 2, 0] ∧ win0_21.index t = ![t.val / 2, t.val % 2, 0] :=
  (by decide +kernel : ∀ t : Fin grid0.N, _)

/-- A point's batch entry within its half of the batch. -/
def bat (t : Fin cfg0.N) : Fin 2 := ⟨t.val / 2, by have : t.val < 4 := t.isLt.trans_eq N_0; omega⟩

/-- The token of row `r` at a point. -/
def tok (t : Fin cfg0.N) (r : Fin 1024) : Fin 2048 := ⟨t.val % 2 * 1024 + r.val, by omega⟩

/-- A batch entry of the first half. -/
def lo (i : Fin 2) : Fin 4 := ⟨i.val, by omega⟩

/-- A batch entry of the second half. -/
def hi (i : Fin 2) : Fin 4 := ⟨2 + i.val, by omega⟩

section
variable (m : (ℓ : Loc nD τ sig) → Buf (Elt Ideal) ℓ) (c : Dev nD)

/-- The argument arrays of the kernel in a memory. -/
def args : Args where
  x := m ((c.tc : Thread nD τ).loc main_arg0)
  wr1 := m ((c.tc : Thread nD τ).loc main_arg1)
  br1 := m ((c.tc : Thread nD τ).loc main_arg2)
  wr2 := m ((c.tc : Thread nD τ).loc main_arg3)
  br2 := m ((c.tc : Thread nD τ).loc main_arg4)
  wb1 := m ((c.tc : Thread nD τ).loc main_arg5)
  bb1 := m ((c.tc : Thread nD τ).loc main_arg6)
  wb2 := m ((c.tc : Thread nD τ).loc main_arg7)
  bb2 := m ((c.tc : Thread nD τ).loc main_arg8)
  u := m ((c.tc : Thread nD τ).loc main_arg9)

/-! ## The operands the program reshapes and pads before the region -/

/-- The router's first bias reaches the grid as one row. -/
theorem V_v1 : V m c main_v1 = shapeCast S1x1024 (m ((c.tc : Thread nD τ).loc main_arg2)) shapeCasts_S1024_S1x1024 := by
  show StableHlo.after (hostOps0 ++ (hostOps0_1 ++ (hostOps0_2 ++ []))) _ _ = _
  simp only [List.cons_append, List.nil_append]
  after_results
  rfl

/-- The router's second bias reaches the grid as one row. -/
theorem V_v2 : V m c main_v2 = shapeCast S1x16 (m ((c.tc : Thread nD τ).loc main_arg4)) shapeCasts_S16_S1x16 := by
  show StableHlo.after (hostOps0 ++ (hostOps0_1 ++ (hostOps0_2 ++ []))) _ _ = _
  simp only [List.cons_append, List.nil_append]
  after_results
  rfl

/-- The baseline's first bias reaches the grid as one row. -/
theorem V_v3 : V m c main_v3 = shapeCast S1x1024 (m ((c.tc : Thread nD τ).loc main_arg6)) shapeCasts_S1024_S1x1024 := by
  show StableHlo.after (hostOps0 ++ (hostOps0_1 ++ (hostOps0_2 ++ []))) _ _ = _
  simp only [List.cons_append, List.nil_append]
  after_results
  rfl

/-- The baseline's second bias reaches the grid as one entry. -/
theorem V_v4 : V m c main_v4 = shapeCast S1x1 (m ((c.tc : Thread nD τ).loc main_arg8)) shapeCasts_S1_S1x1 := by
  show StableHlo.after (hostOps0 ++ (hostOps0_1 ++ (hostOps0_2 ++ []))) _ _ = _
  simp only [List.cons_append, List.nil_append]
  after_results
  rfl

/-- The baseline's second weights reach the grid with 127 rows of zeros below. -/
theorem V_v0 : V m c main_v0 = pad S128x1024 ![0, 0] ![127, 0] ![0, 0] (m ((c.tc : Thread nD τ).loc main_arg7))
    (sitofp (F := Ideal) .f32 (constantI S_ 32 0#32)) pads_S1x1024_S128x1024_01270_000 h_S_ := by
  show StableHlo.after (hostOps0 ++ (hostOps0_1 ++ (hostOps0_2 ++ []))) _ _ = _
  simp only [List.cons_append, List.nil_append]
  after_results
  rfl

/-- Row zero of a one-row matrix padded with rows below is that row. -/
theorem pad_row (x : FVec Ideal S1x1024 .f32) (v : FVec Ideal S_ .f32) (o : Fin 1024) :
    pad S128x1024 ![0, 0] ![127, 0] ![0, 0] x v pads_S1x1024_S128x1024_01270_000 h_S_ (ix2 0 o) = x (ix2 0 o) := by
  rw [pad_apply, dif_pos]
  · congr 1
    funext a
    fin_cases a
    · apply Fin.ext
      simp
    · apply Fin.ext
      show (o.val - 0) / (0 + 1) = o.val
      omega
  · intro a
    fin_cases a <;> simp [S1x1024, Nat.mod_one]

/-! ## The blocks the points read -/

/-- A row of the first token block is a token of the first half of the batch. -/
theorem xa_at (t : Fin cfg0.N) (r d : Fin 1024) :
    iblk m c 0 t (ix3 0 r d) = (args m c).x (ix3 (lo (bat t)) (tok t r) d) := by
  unfold args
  blk_point [iblk, V, idx t, lo, bat, tok]

/-- A row of the second token block is a token of the second half of the batch. -/
theorem xb_at (t : Fin cfg0.N) (r d : Fin 1024) :
    iblk m c 1 t (ix3 0 r d) = (args m c).x (ix3 (hi (bat t)) (tok t r) d) := by
  unfold args
  blk_point [iblk, V, idx t, hi, bat, tok]

/-- A row of the first block of draws belongs to a token of the first half of the batch. -/
theorem ua_at (t : Fin cfg0.N) (r : Fin 1024) (e : Fin 16) :
    iblk m c 10 t (ix3 0 r e) = (args m c).u (ix3 (lo (bat t)) (tok t r) e) := by
  unfold args
  blk_point [iblk, V, idx t, lo, bat, tok]

/-- A row of the second block of draws belongs to a token of the second half of the batch. -/
theorem ub_at (t : Fin cfg0.N) (r : Fin 1024) (e : Fin 16) :
    iblk m c 11 t (ix3 0 r e) = (args m c).u (ix3 (hi (bat t)) (tok t r) e) := by
  unfold args
  blk_point [iblk, V, idx t, hi, bat, tok]

/-- Every point reads the router's first weights whole. -/
theorem wr1_at (t : Fin cfg0.N) (o d : Fin 1024) :
    iblk m c 2 t (ix2 o d) = (args m c).wr1 (ix2 o d) := by
  unfold args
  blk_point [iblk, V, idx t]

/-- Every point reads the router's second weights whole. -/
theorem wr2_at (t : Fin cfg0.N) (e : Fin 16) (o : Fin 1024) :
    iblk m c 4 t (ix2 e o) = (args m c).wr2 (ix2 e o) := by
  unfold args
  blk_point [iblk, V, idx t]

/-- Every point reads the baseline's first weights whole. -/
theorem wb1_at (t : Fin cfg0.N) (o d : Fin 1024) :
    iblk m c 6 t (ix2 o d) = (args m c).wb1 (ix2 o d) := by
  unfold args
  blk_point [iblk, V, idx t]

/-- Every point reads the router's first bias whole. -/
theorem br1_at (t : Fin cfg0.N) (o : Fin 1024) :
    iblk m c 3 t (ix2 0 o) = (args m c).br1 (ix1 o) := by
  unfold args
  blk_simp [iblk, idx t]
  rw [V_v1]
  pointwise
  blk_ext [idx t]

/-- Every point reads the router's second bias whole. -/
theorem br2_at (t : Fin cfg0.N) (e : Fin 16) :
    iblk m c 5 t (ix2 0 e) = (args m c).br2 (ix1 e) := by
  unfold args
  blk_simp [iblk, idx t]
  rw [V_v2]
  pointwise
  blk_ext [idx t]

/-- Every point reads the baseline's first bias whole. -/
theorem bb1_at (t : Fin cfg0.N) (o : Fin 1024) :
    iblk m c 7 t (ix2 0 o) = (args m c).bb1 (ix1 o) := by
  unfold args
  blk_simp [iblk, idx t]
  rw [V_v3]
  pointwise
  blk_ext [idx t]

/-- The first row of the padded weights every point reads is the baseline's second weights. -/
theorem wb2_at (t : Fin cfg0.N) (o : Fin 1024) : iblk m c 8 t (ix2 0 o) = (args m c).wb2 (ix2 0 o) := by
  have h : iblk m c 8 t (ix2 0 o) = V m c main_v0 (ix2 0 o) := by
    blk_simp [iblk, idx t]
    blk_ext [idx t]
  rw [h, V_v0]
  exact pad_row _ _ o

/-- Every point reads the baseline's second bias. -/
theorem bb2_at (t : Fin cfg0.N) (h) :
    View.ld (iblk m c 9 t) (Rect.unit ![0, 0] ![1, 1] inb_S1x1_S1x1_0_0) (Shape.Idx.first h) = (args m c).bb2 (ix1 0) := by
  unfold args
  pointwise
  blk_simp [iblk, idx t]
  rw [V_v4]
  pointwise
  blk_ext [idx t]

end

end Cert.KernelIdeal.Arrays

end
-- ==== Proof.Final.lean ====
module

public import proofs.«01_k».proof.Proof.Arrays

@[expose] public section

set_option maxRecDepth 16384

noncomputable section

/-! The ten arrays the region leaves, five for each half of the batch. -/

namespace Cert.KernelIdeal.Arrays

open Idealize.ShloMosaic Idealize.ShloMosaic.TcCoe Idealize.SL.Sem
open Cert.KernelIdeal Cert.KernelIdeal.Gen Cert.Router

/-- The array of half a batch whose entry at token `s` of batch entry `i` is `f i s`. -/
def rows {α : Type} {n : ℕ} (f : Fin 2 → Fin 2048 → Fin n → α) : (⟨3, ![2, 2048, n]⟩ : Shape).Idx → α :=
  fun y => f (y 0) (y 1) (y 2)

section
variable (A : Args) (h : Fin 2 → Fin 4)

/-- The weights of the batch entries `h 0` and `h 1`. -/
def weightsRows : S2x2048x2.Idx → EReal := rows fun i s k => weights (A.probs (h i) s) k

/-- The indices of those batch entries. -/
def indicesRows : S2x2048x2.Idx → BitVec 32 := rows fun i s k => indices (A.probs (h i) s) k

/-- The baselines of those batch entries. -/
def baseRows : S2x2048x1.Idx → EReal := rows fun i s _ => A.base (h i) s

/-- The advantages of those batch entries. -/
def gradRows : S2x2048x2.Idx → EReal := rows fun i s k => weights (A.probs (h i) s) k - A.base (h i) s

/-- The scores of those batch entries. -/
def scoresRows : S2x2048x16.Idx → EReal := rows fun i s e => A.score (h i) s e

end

section
variable (m : (ℓ : Loc nD τ sig) → Buf (Elt Ideal) ℓ) (c : Dev nD)

/-- A one-cell block is not empty. -/
theorem cell_pos : 0 < (Rect.unit (s := S1x1) ![0, 0] ![1, 1] inb_S1x1_S1x1_0_0).shape.numel :=
  (by decide : 0 < S1x1.numel)

/-- The first block of a point holds rows of the first half of the batch. -/
theorem holds_lo (t : Fin cfg0.N) (h) : Stream.Holds (args m c) (lo (bat t)) (tok t) (iblk m c 0 t) (iblk m c 10 t)
    (iblk m c 2 t) (iblk m c 3 t) (iblk m c 4 t) (iblk m c 5 t) (iblk m c 6 t) (iblk m c 7 t) (iblk m c 8 t)
    (View.ld (iblk m c 9 t) (Rect.unit ![0, 0] ![1, 1] inb_S1x1_S1x1_0_0) (Shape.Idx.first h)) :=
  ⟨xa_at m c t, ua_at m c t, wr1_at m c t, br1_at m c t, wr2_at m c t, br2_at m c t, wb1_at m c t, bb1_at m c t,
    wb2_at m c t, bb2_at m c t h⟩

/-- The second block of a point holds rows of the second half of the batch. -/
theorem holds_hi (t : Fin cfg0.N) (h) : Stream.Holds (args m c) (hi (bat t)) (tok t) (iblk m c 1 t) (iblk m c 11 t)
    (iblk m c 2 t) (iblk m c 3 t) (iblk m c 4 t) (iblk m c 5 t) (iblk m c 6 t) (iblk m c 7 t) (iblk m c 8 t)
    (View.ld (iblk m c 9 t) (Rect.unit ![0, 0] ![1, 1] inb_S1x1_S1x1_0_0) (Shape.Idx.first h)) :=
  ⟨xb_at m c t, ub_at m c t, wr1_at m c t, br1_at m c t, wr2_at m c t, br2_at m c t, wb1_at m c t, bb1_at m c t,
    wb2_at m c t, bb2_at m c t h⟩

set_option maxHeartbeats 2000000 in
/-- After all points the ten output arrays hold the five results of the first half of the batch, then the five of the
second: every block lies at the rows of its point's tokens, and holds what its stream stores. -/
theorem final :
    (dats m 0 c).arrAt 12 (cfgs 0).N = weightsRows (args m c) lo ∧
    (dats m 0 c).arrAt 13 (cfgs 0).N = indicesRows (args m c) lo ∧
    (dats m 0 c).arrAt 14 (cfgs 0).N = baseRows (args m c) lo ∧
    (dats m 0 c).arrAt 15 (cfgs 0).N = gradRows (args m c) lo ∧
    (dats m 0 c).arrAt 16 (cfgs 0).N = scoresRows (args m c) lo ∧
    (dats m 0 c).arrAt 17 (cfgs 0).N = weightsRows (args m c) hi ∧
    (dats m 0 c).arrAt 18 (cfgs 0).N = indicesRows (args m c) hi ∧
    (dats m 0 c).arrAt 19 (cfgs 0).N = baseRows (args m c) hi ∧
    (dats m 0 c).arrAt 20 (cfgs 0).N = gradRows (args m c) hi ∧
    (dats m 0 c).arrAt 21 (cfgs 0).N = scoresRows (args m c) hi := by
  refine ⟨(dats m 0 c).arrAt_eq_of_covers 12 _ (by decide +kernel) fun t _ y => ?_,
    (dats m 0 c).arrAt_eq_of_covers 13 _ (by decide +kernel) fun t _ y => ?_,
    (dats m 0 c).arrAt_eq_of_covers 14 _ (by decide +kernel) fun t _ y => ?_,
    (dats m 0 c).arrAt_eq_of_covers 15 _ (by decide +kernel) fun t _ y => ?_,
    (dats m 0 c).arrAt_eq_of_covers 16 _ (by decide +kernel) fun t _ y => ?_,
    (dats m 0 c).arrAt_eq_of_covers 17 _ (by decide +kernel) fun t _ y => ?_,
    (dats m 0 c).arrAt_eq_of_covers 18 _ (by decide +kernel) fun t _ y => ?_,
    (dats m 0 c).arrAt_eq_of_covers 19 _ (by decide +kernel) fun t _ y => ?_,
    (dats m 0 c).arrAt_eq_of_covers 20 _ (by decide +kernel) fun t _ y => ?_,
    (dats m 0 c).arrAt_eq_of_covers 21 _ (by decide +kernel) fun t _ y => ?_⟩
  all_goals
    first
      | change S1x1024x2.Idx at y
      | change S1x1024x1.Idx at y
      | change S1x1024x16.Idx at y
    idx_vars y
    obtain rfl : y0 = 0 := Subsingleton.elim _ _
    blk_simp
    simp only [after0_12, after0_13, after0_14, after0_15, after0_16, after0_17, after0_18, after0_19, after0_20, after0_21]
    unfold outsAt0
    frame_out
  · exact (Stream.store_weights (holds_lo m c t cell_pos) y1 y2).trans
      (congrArg (weightsRows (args m c) lo) (show (win0_12.blk t).view.emb (ix3 0 y1 y2) = ix3 (bat t) (tok t y1) y2 by
        blk_ext [idx t, bat, tok])).symm
  · exact (Stream.store_indices (holds_lo m c t cell_pos) y1 y2).trans
      (congrArg (indicesRows (args m c) lo) (show (win0_13.blk t).view.emb (ix3 0 y1 y2) = ix3 (bat t) (tok t y1) y2 by
        blk_ext [idx t, bat, tok])).symm
  · exact (Stream.store_base (holds_lo m c t cell_pos) y1 y2).trans
      (congrArg (baseRows (args m c) lo) (show (win0_14.blk t).view.emb (ix3 0 y1 y2) = ix3 (bat t) (tok t y1) y2 by
        blk_ext [idx t, bat, tok])).symm
  · exact (Stream.store_grad (holds_lo m c t cell_pos) y1 y2).trans
      (congrArg (gradRows (args m c) lo) (show (win0_15.blk t).view.emb (ix3 0 y1 y2) = ix3 (bat t) (tok t y1) y2 by
        blk_ext [idx t, bat, tok])).symm
  · exact (Stream.store_scores (holds_lo m c t cell_pos) y1 y2).trans
      (congrArg (scoresRows (args m c) lo) (show (win0_16.blk t).view.emb (ix3 0 y1 y2) = ix3 (bat t) (tok t y1) y2 by
        blk_ext [idx t, bat, tok])).symm
  · exact (Stream.store_weights' (holds_hi m c t cell_pos) y1 y2).trans
      (congrArg (weightsRows (args m c) hi) (show (win0_17.blk t).view.emb (ix3 0 y1 y2) = ix3 (bat t) (tok t y1) y2 by
        blk_ext [idx t, bat, tok])).symm
  · exact (Stream.store_indices' (holds_hi m c t cell_pos) y1 y2).trans
      (congrArg (indicesRows (args m c) hi) (show (win0_18.blk t).view.emb (ix3 0 y1 y2) = ix3 (bat t) (tok t y1) y2 by
        blk_ext [idx t, bat, tok])).symm
  · exact (Stream.store_base' (holds_hi m c t cell_pos) y1 y2).trans
      (congrArg (baseRows (args m c) hi) (show (win0_19.blk t).view.emb (ix3 0 y1 y2) = ix3 (bat t) (tok t y1) y2 by
        blk_ext [idx t, bat, tok])).symm
  · exact (Stream.store_grad' (holds_hi m c t cell_pos) y1 y2).trans
      (congrArg (gradRows (args m c) hi) (show (win0_20.blk t).view.emb (ix3 0 y1 y2) = ix3 (bat t) (tok t y1) y2 by
        blk_ext [idx t, bat, tok])).symm
  · exact (Stream.store_scores' (holds_hi m c t cell_pos) y1 y2).trans
      (congrArg (scoresRows (args m c) hi) (show (win0_21.blk t).view.emb (ix3 0 y1 y2) = ix3 (bat t) (tok t y1) y2 by
        blk_ext [idx t, bat, tok])).symm

end

end Cert.KernelIdeal.Arrays

end
-- ==== Proof.Results.lean ====
module

public import proofs.«01_k».proof.Proof.Final

@[expose] public section

set_option maxRecDepth 16384

noncomputable section

/-! The kernel's five results, joined from the two halves of the batch. -/

namespace Cert.KernelIdeal.Results

open Idealize.ShloMosaic Idealize.ShloMosaic.TcCoe Idealize.SL.Sem
open Cert.KernelIdeal Cert.KernelIdeal.Gen Cert.KernelIdeal.Arrays Cert.Router

/-- Two halves of the batch laid one after the other: the entry at `i` is the one the half holding `i` has. -/
theorem join_at {α : Type} {n : ℕ} (f : Fin 4 → Fin 2048 → Fin n → α)
    (h : Shape.Concatenates [⟨3, ![2, 2048, n]⟩, ⟨3, ![2, 2048, n]⟩] (⟨3, ![4, 2048, n]⟩ : Shape) 0)
    (i : Fin 4) (j : Fin 2048) (k : Fin n) :
    concatenate (⟨3, ![4, 2048, n]⟩ : Shape) 0
      [⟨⟨3, ![2, 2048, n]⟩, rows fun b => f (lo b)⟩, ⟨⟨3, ![2, 2048, n]⟩, rows fun b => f (hi b)⟩] h (ix3 i j k) = f i j k := by
  pointwise [rows]
  split
  · exact congrArg (fun b => f b j k) (Fin.ext rfl)
  · exact congrArg (fun b => f b j k) (Fin.ext (show 2 + (i.val - 2) = i.val by omega))

/-- Dropping a last axis of one entry: the entry at a token. -/
theorem drop_at (X : FVec Ideal S4x2048x1 .f32) (i : Fin 4) (j : Fin 2048) :
    shapeCast S4x2048 X shapeCasts_S4x2048x1_S4x2048 (ix2 i j) = X (ix3 i j 0) := by
  pointwise []

section
variable (m : (ℓ : Loc nD τ sig) → Buf (Elt Ideal) ℓ) (c : Dev nD)

/-- The weights over the whole batch. -/
def weightsK : FVec Ideal S4x2048x2 .f32 :=
  concatenate S4x2048x2 0 [⟨S2x2048x2, weightsRows (args m c) lo⟩, ⟨S2x2048x2, weightsRows (args m c) hi⟩]
    concatenates_S2x2048x2_S2x2048x2_S4x2048x2_d0

/-- The indices over the whole batch. -/
def indicesK : IVec S4x2048x2 32 :=
  concatenate S4x2048x2 0 [⟨S2x2048x2, indicesRows (args m c) lo⟩, ⟨S2x2048x2, indicesRows (args m c) hi⟩]
    concatenates_S2x2048x2_S2x2048x2_S4x2048x2_d0

/-- The baseline over the whole batch. -/
def baseK : FVec Ideal S4x2048 .f32 :=
  shapeCast S4x2048 (concatenate S4x2048x1 0 [⟨S2x2048x1, baseRows (args m c) lo⟩, ⟨S2x2048x1, baseRows (args m c) hi⟩]
    concatenates_S2x2048x1_S2x2048x1_S4x2048x1_d0) shapeCasts_S4x2048x1_S4x2048

/-- The advantages over the whole batch. -/
def gradK : FVec Ideal S4x2048x2 .f32 :=
  concatenate S4x2048x2 0 [⟨S2x2048x2, gradRows (args m c) lo⟩, ⟨S2x2048x2, gradRows (args m c) hi⟩]
    concatenates_S2x2048x2_S2x2048x2_S4x2048x2_d0

/-- The scores over the whole batch. -/
def scoresK : FVec Ideal S4x2048x16 .f32 :=
  concatenate S4x2048x16 0 [⟨S2x2048x16, scoresRows (args m c) lo⟩, ⟨S2x2048x16, scoresRows (args m c) hi⟩]
    concatenates_S2x2048x16_S2x2048x16_S4x2048x16_d0

/-- A token's weights. -/
theorem weightsK_at (i : Fin 4) (j : Fin 2048) (k : Fin 2) : weightsK m c (ix3 i j k) = weights ((args m c).probs i j) k :=
  join_at (fun i j k => weights ((args m c).probs i j) k) _ i j k

/-- A token's indices. -/
theorem indicesK_at (i : Fin 4) (j : Fin 2048) (k : Fin 2) : indicesK m c (ix3 i j k) = indices ((args m c).probs i j) k :=
  join_at (fun i j k => indices ((args m c).probs i j) k) _ i j k

/-- A token's baseline. -/
theorem baseK_at (i : Fin 4) (j : Fin 2048) : baseK m c (ix2 i j) = (args m c).base i j :=
  (drop_at _ i j).trans <| join_at (fun i j (_ : Fin 1) => (args m c).base i j) _ i j 0

/-- A token's advantages. -/
theorem gradK_at (i : Fin 4) (j : Fin 2048) (k : Fin 2) :
    gradK m c (ix3 i j k) = weights ((args m c).probs i j) k - (args m c).base i j :=
  join_at (fun i j k => weights ((args m c).probs i j) k - (args m c).base i j) _ i j k

/-- A token's scores. -/
theorem scoresK_at (i : Fin 4) (j : Fin 2048) (e : Fin 16) : scoresK m c (ix3 i j e) = (args m c).score i j e :=
  join_at (fun i j e => (args m c).score i j e) _ i j e

/-- What stands in the buffers once the grid is done: an output array of the grid holds its last contents. -/
theorem left_at (w : Fin cfg0.W) :
    Pipeline.withArrays (cfgs 0).spec c (V0 m c) (fun w => (dats m 0 c).arrAt w (cfgs 0).N)
      (Proc.devRef .tc (Pipeline.arrRef (cfgs 0).spec w)) = (dats m 0 c).arrAt w (cfgs 0).N :=
  (dats m 0 c).withArrays_arrAt sharedIn0 (V0 m c) (A_eq m c) w

/-- The five result buffers at the end: each the two halves' output arrays, joined. -/
theorem tail :
    Pipeline.afterTail₀ cfgs (dats m) 0 (V0 m) [hostOps1] c main_v6 = weightsK m c ∧
    Pipeline.afterTail₀ cfgs (dats m) 0 (V0 m) [hostOps1] c main_v7 = indicesK m c ∧
    Pipeline.afterTail₀ cfgs (dats m) 0 (V0 m) [hostOps1] c main_v9 = baseK m c ∧
    Pipeline.afterTail₀ cfgs (dats m) 0 (V0 m) [hostOps1] c main_v10 = gradK m c ∧
    Pipeline.afterTail₀ cfgs (dats m) 0 (V0 m) [hostOps1] c main_v11 = scoresK m c := by
  obtain ⟨w₁, i₁, b₁, g₁, s₁, w₂, i₂, b₂, g₂, s₂⟩ := final m c
  refine ⟨?_, ?_, ?_, ?_, ?_⟩
  all_goals
    show StableHlo.after hostOps1 _ _ = _
    after_results
  · erw [left_at m c 12, left_at m c 17]
    rw [w₁, w₂]
    rfl
  · erw [left_at m c 13, left_at m c 18]
    rw [i₁, i₂]
    rfl
  · erw [left_at m c 14, left_at m c 19]
    rw [b₁, b₂]
    rfl
  · erw [left_at m c 15, left_at m c 20]
    rw [g₁, g₂]
    rfl
  · erw [left_at m c 16, left_at m c 21]
    rw [s₁, s₂]
    rfl

/-- The kernel's run ends with the five arrays above and its arguments unchanged. -/
theorem run_arrays (ρ : Dev nD → PrngReg) :
    θ_run defs (onTc (τ := τ) (main (F := Ideal))) ⟨m, fun _ => 0, ρ⟩ fun r => ∀ c : Dev nD,
      r.2.mem ((c.tc : Thread nD τ).loc main_v6) = weightsK m c
      ∧ r.2.mem ((c.tc : Thread nD τ).loc main_v7) = indicesK m c
      ∧ r.2.mem ((c.tc : Thread nD τ).loc main_v9) = baseK m c
      ∧ r.2.mem ((c.tc : Thread nD τ).loc main_v10) = gradK m c
      ∧ r.2.mem ((c.tc : Thread nD τ).loc main_v11) = scoresK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (θ_run_and (run_main m ρ) (unchanged m ρ))
  obtain ⟨hrun, hargs⟩ := h
  have hrest := (hrun c).2
  obtain ⟨t₀, t₁, t₂, t₃, t₄⟩ := tail m c
  exact ⟨(hrest main_v6 (by decide)).trans t₀, (hrest main_v7 (by decide)).trans t₁,
    (hrest main_v9 (by decide)).trans t₂, (hrest main_v10 (by decide)).trans t₃,
    (hrest main_v11 (by decide)).trans t₄, hargs c⟩

end

end Cert.KernelIdeal.Results

end
-- ==== Proof.Condition.lean ====
module

public import proofs.«01_k».proof.Proof.Layer
public import proofs.«01_k».proof.Proof.Gen.Pre_finite_router
public import Idealize.ShloMosaic.Lib.ReduceAll

@[expose] public section

set_option maxRecDepth 16384

noncomputable section

/-! What the precondition says of the argument arrays. -/

namespace Cert.Pre_finite_router.Read

open Idealize.ShloMosaic Cert.Pre_finite_router Cert.Pre_finite_router.Gen Cert.Router

/-- The literal with the exponent all ones denotes the top value. -/
theorem lit_top : Ideal.ofBits .f32 0x7F800000#32 = ⊤ := by
  simp [Ideal.ofBits, Ideal.ieee]

/-- The literal one denotes one. -/
theorem lit_one : Ideal.ofBits .f32 0x3F800000#32 = 1 := by
  simp [Ideal.ofBits, Ideal.ieee]
  rw [← EReal.coe_mul]
  norm_num

/-- A comparison "less than" that came out one. -/
theorem lt_of_cmp {a b : EReal} (h : Ideal.cmp .olt a b = 1#1) : a < b := by
  by_contra hn
  simp [Ideal.cmp, hn] at h

/-- A comparison "greater than" that came out one. -/
theorem gt_of_cmp {a b : EReal} (h : Ideal.cmp .ogt a b = 1#1) : b < a := by
  by_contra hn
  simp [Ideal.cmp, hn] at h

/-- A value whose magnitude is below the top is a real number. -/
theorem finite_of_abs {a : EReal} (h : max a (-a) < ⊤) : Finite a := by
  induction a using EReal.rec with
  | bot => simp at h
  | coe r => exact ⟨r, rfl⟩
  | top => simp at h

/-- The only index of an array without axes. -/
instance : Subsingleton S_.Idx := ⟨fun a b => funext fun d => d.elim0⟩

/-- If all of `|x| < ∞` holds, every entry of `x` is a real number. -/
theorem finite_of_all {s : Shape} {axes : List (Fin s.rank)} (x : FVec Ideal s .f32)
    (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant S_ .f32 0x7F800000#32)))
      (constantI S_ 1 1#1) hr hu j = 1#1) (i : s.Idx) : Finite (x i) := by
  have e := lt_of_cmp (Host.reduce_andi_all _ _ hr hu j h i)
  refine finite_of_abs (e.trans_eq lit_top)

/-- If all of `0 < x` holds, every entry of `x` is above zero. -/
theorem pos_of_all {s : Shape} {axes : List (Fin s.rank)} (x : FVec Ideal s .f32)
    (hb : S_.BroadcastsInDim s (![] : Fin 0 → Fin s.rank)) (hr : s.ReducesTo axes S_) (hu : 0 < S_.numel) (j : S_.Idx)
    (h : Host.reduce IntOp.andi (cmpf .ogt x (broadcastInDim s ![] hb (constant S_ .f32 0x00000000#32)))
      (constantI S_ 1 1#1) hr hu j = 1#1) (i : s.Idx) : 0 < x i :=
  Ideal.ofBits_zero_f32.symm.trans_lt (gt_of_cmp (Host.reduce_andi_all _ _ hr hu j h i))

/-- If all of `x < 1` holds, every entry of `x` is below one. -/
theorem lt_one_of_all {s : Shape} {axes : List (Fin s.rank)} (x : FVec Ideal s .f32)
    (hb : S_.BroadcastsInDim s (![] : Fin 0 → Fin s.rank)) (hr : s.ReducesTo axes S_) (hu : 0 < S_.numel) (j : S_.Idx)
    (h : Host.reduce IntOp.andi (cmpf .olt x (broadcastInDim s ![] hb (constant S_ .f32 0x3F800000#32)))
      (constantI S_ 1 1#1) hr hu j = 1#1) (i : s.Idx) : x i < 1 :=
  (lt_of_cmp (Host.reduce_andi_all _ _ hr hu j h i)).trans_eq lit_one

/-- Two bits whose conjunction is one at an index are one there. -/
theorem both {x y : IVec S_ 1} {j : S_.Idx} (h : andi x y j = 1#1) : x j = 1#1 ∧ y j = 1#1 := IntOp.andi_eq_one.1 h

/-- Arguments that meet the precondition are tame. -/
theorem tame (A : Args) (h : fn (F := Ideal) A.x A.wr1 A.br1 A.wr2 A.br2 A.wb1 A.bb1 A.wb2 A.bb2 A.u = fun _ => 1#1) :
    A.Tame := by
  have h0 := congrFun h fun a => a.elim0
  obtain ⟨h1, hlt⟩ := both h0
  obtain ⟨h2, hpos⟩ := both h1
  obtain ⟨h3, hbr2⟩ := both h2
  obtain ⟨h4, hwr2⟩ := both h3
  obtain ⟨h5, hbr1⟩ := both h4
  obtain ⟨hx, hwr1⟩ := both h5
  exact {
    x := fun i j d => finite_of_all _ _ _ _ _ hx _
    wr1 := fun o d => finite_of_all _ _ _ _ _ hwr1 _
    br1 := fun o => finite_of_all _ _ _ _ _ hbr1 _
    wr2 := fun e o => finite_of_all _ _ _ _ _ hwr2 _
    br2 := fun e => finite_of_all _ _ _ _ _ hbr2 _
    pos := fun i j e => pos_of_all _ _ _ _ _ hpos _
    lt_one := fun i j e => lt_one_of_all _ _ _ _ _ hlt _ }

end Cert.Pre_finite_router.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_finite_router
public import proofs.«01_k».proof.Proof.Reference
public import proofs.«01_k».proof.Proof.Results
public import proofs.«01_k».proof.Proof.Condition
public import Idealize.ShloMosaic.Lib.Claim
public import Idealize.ShloMosaic.Lib.Quiescent
public import Idealize.ShloMosaic.Adequacy
public import Idealize.ShloMosaic.Init

@[expose] public section

noncomputable section

/-! The claims, from the kernel's run, the reference's run and what the precondition says. -/

namespace Cert.Proof

open Idealize.ShloMosaic Idealize.SL.Sem

local instance : Cert.KernelIdeal.Facts := Cert.KernelIdeal.Gen.facts
local instance : Cert.ReferenceIdeal.Facts := Cert.ReferenceIdeal.Gen.facts
local instance : Cert.Pre_finite_router.Facts := Cert.Pre_finite_router.Gen.facts

/-- The reference ends with its arguments unchanged and every semaphore counter at zero. -/
theorem reference_frame : Cert.quiescent_ReferenceIdeal := fun m g _ =>
  (θ_run Cert.ReferenceIdeal.defs _ _).mono
    (fun r h => ⟨fun c => (h c).2.2.2.2.2, Idealize.ShloMosaic.sem_eq_zero_of_no_sems (by decide) r.2⟩)
    (Cert.ReferenceIdeal.Rows.run_arrays m g)

section
variable (m : (ℓ : Loc Cert.KernelIdeal.nD Cert.KernelIdeal.τ Cert.KernelIdeal.sig) → Buf (Elt Ideal) ℓ)
  (c : Dev Cert.KernelIdeal.nD)

open Cert.KernelIdeal.Arrays Cert.KernelIdeal.Results Cert.ReferenceIdeal.Rows

/-- The two programs' weights agree. -/
theorem weights_eq (h : (Cert.KernelIdeal.Arrays.args m c).Tame) : weightsT (Cert.KernelIdeal.Arrays.args m c) = weightsK m c := by
  funext y
  idx_vars y
  exact (weightsT_at _ h _ _ _).trans (weightsK_at m c _ _ _).symm

/-- The two programs' indices agree. -/
theorem indices_eq (h : (Cert.KernelIdeal.Arrays.args m c).Tame) : indicesT (Cert.KernelIdeal.Arrays.args m c) = indicesK m c := by
  funext y
  idx_vars y
  exact (indicesT_at _ h _ _ _).trans (indicesK_at m c _ _ _).symm

/-- The two programs' baseline agree. -/
theorem base_eq : baseT (Cert.KernelIdeal.Arrays.args m c) = baseK m c := by
  funext y
  idx_vars y
  exact (baseT_at _ _ _).trans (baseK_at m c _ _).symm

/-- The two programs' advantages agree. -/
theorem grad_eq (h : (Cert.KernelIdeal.Arrays.args m c).Tame) : gradT (Cert.KernelIdeal.Arrays.args m c) = gradK m c := by
  funext y
  idx_vars y
  exact (gradT_at _ h _ _ _).trans (gradK_at m c _ _ _).symm

/-- The two programs' scores agree. -/
theorem scores_eq : scoresT (Cert.KernelIdeal.Arrays.args m c) = scoresK m c := by
  funext y
  idx_vars y
  exact (scoresT_at _ _ _ _).trans (scoresK_at m c _ _ _).symm

end

/-- From memories that agree on the arguments, and meet the precondition, the two runs end with the same five arrays. -/
theorem algebraic : Cert.algebraic_KernelIdeal_ReferenceIdeal_pre_finite_router := by
  intro m g m' g' hpre hagree
  have htame : ∀ c, (Cert.KernelIdeal.Arrays.args m c).Tame := fun c => Cert.Pre_finite_router.Read.tame _ (hpre c)
  have hargs : ∀ c, Cert.ReferenceIdeal.Rows.args m' c = Cert.KernelIdeal.Arrays.args m c := by
    intro c
    obtain ⟨h0, h1, h2, h3, h4, h5, h6, h7, h8, h9⟩ := hagree c
    unfold Cert.ReferenceIdeal.Rows.args Cert.KernelIdeal.Arrays.args
    rw [h0, h1, h2, h3, h4, h5, h6, h7, h8, h9]
  refine ⟨_, _, _, _, _, Cert.KernelIdeal.Results.run_arrays m g, ?_⟩
  refine (θ_run Cert.ReferenceIdeal.defs _ _).mono (fun r h c => ?_) (Cert.ReferenceIdeal.Rows.run_arrays m' g')
  obtain ⟨h0, h1, h2, h3, h4, hrest⟩ := h c
  rw [hargs c] at h0 h1 h2 h3 h4
  refine ⟨h0.trans (weights_eq m c (htame c)), h1.trans (indices_eq m c (htame c)), h2.trans (base_eq m c),
    h3.trans (grad_eq m c (htame c)), h4.trans (scores_eq m c), hrest⟩

/-- Every claim. -/
theorem claim : Cert.Claim :=
  ⟨Cert.Kernel.Gen.facts, Cert.KernelIdeal.Gen.facts, Cert.ReferenceIdeal.Gen.facts, Cert.Pre_finite_router.Gen.facts,
    fun m g _ => Cert.Kernel.Gen.frame m g, fun m g _ => Cert.KernelIdeal.Gen.frame m g,
    fun m g _ => Cert.KernelIdeal.Gen.frame m g, reference_frame, fun m g _ => reference_frame m g trivial,
    IdealRules.named_const.statement Cert.KernelIdeal.κ "inv_sqrt2" .f32 0x3F3504F3#32 (((Real.sqrt 2)⁻¹ : ℝ) : EReal) rfl,
    algebraic⟩

end Cert.Proof

end
